-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenRefIdeal (m : (ℓ : Loc Cert.EvenRefIdeal.nD Cert.EvenRefIdeal.τ Cert.EvenRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3)
      ∧ r.2.mem ((c.tc : Thread Cert.Even.nD Cert.Even.τ).loc Cert.Even.main_arg4) = m ((c.tc : Thread Cert.Even.nD Cert.Even.τ).loc Cert.Even.main_arg4)
      ∧ r.2.mem ((c.tc : Thread Cert.Even.nD Cert.Even.τ).loc Cert.Even.main_arg5) = m ((c.tc : Thread Cert.Even.nD Cert.Even.τ).loc Cert.Even.main_arg5)
      ∧ r.2.mem ((c.tc : Thread Cert.Even.nD Cert.Even.τ).loc Cert.Even.main_arg6) = m ((c.tc : Thread Cert.Even.nD Cert.Even.τ).loc Cert.Even.main_arg6)
      ∧ r.2.mem ((c.tc : Thread Cert.Even.nD Cert.Even.τ).loc Cert.Even.main_arg7) = m ((c.tc : Thread Cert.Even.nD Cert.Even.τ).loc Cert.Even.main_arg7)
      ∧ r.2.mem ((c.tc : Thread Cert.Even.nD Cert.Even.τ).loc Cert.Even.main_arg8) = m ((c.tc : Thread Cert.Even.nD Cert.Even.τ).loc Cert.Even.main_arg8)
      ∧ r.2.mem ((c.tc : Thread Cert.Even.nD Cert.Even.τ).loc Cert.Even.main_arg9) = m ((c.tc : Thread Cert.Even.nD Cert.Even.τ).loc Cert.Even.main_arg9)
      ∧ r.2.mem ((c.tc : Thread Cert.Even.nD Cert.Even.τ).loc Cert.Even.main_arg10) = m ((c.tc : Thread Cert.Even.nD Cert.Even.τ).loc Cert.Even.main_arg10))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
      ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
      ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
      ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
      ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
      ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
      ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
      ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10))
      ∧ r.2.sem = fun _ => 0)

def quiescent_EvenRefIdeal [hEvenRefIdeal : Cert.EvenRefIdeal.Facts] : Prop :=
  ∀ (m : (ℓ : Loc Cert.EvenRefIdeal.nD Cert.EvenRefIdeal.τ Cert.EvenRefIdeal.sig) → Buf (Elt Ideal) ℓ) (g : Dev Cert.EvenRefIdeal.nD → PrngReg), Pre_EvenRefIdeal m →
    θ_run (Cert.EvenRefIdeal.defs (F := Ideal)) (onTc (τ := Cert.EvenRefIdeal.τ) (Cert.EvenRefIdeal.main (F := Ideal))) ⟨m, fun _ => 0, g⟩ (fun r => (∀ c : Dev Cert.EvenRefIdeal.nD,
      r.2.mem ((c.tc : Thread Cert.EvenRefIdeal.nD Cert.EvenRefIdeal.τ).loc Cert.EvenRefIdeal.main_arg0) = m ((c.tc : Thread Cert.EvenRefIdeal.nD Cert.EvenRefIdeal.τ).loc Cert.EvenRefIdeal.main_arg0)
      ∧ r.2.mem ((c.tc : Thread Cert.EvenRefIdeal.nD Cert.EvenRefIdeal.τ).loc Cert.EvenRefIdeal.main_arg1) = m ((c.tc : Thread Cert.EvenRefIdeal.nD Cert.EvenRefIdeal.τ).loc Cert.EvenRefIdeal.main_arg1)
      ∧ r.2.mem ((c.tc : Thread Cert.EvenRefIdeal.nD Cert.EvenRefIdeal.τ).loc Cert.EvenRefIdeal.main_arg2) = m ((c.tc : Thread Cert.EvenRefIdeal.nD Cert.EvenRefIdeal.τ).loc Cert.EvenRefIdeal.main_arg2)
      ∧ r.2.mem ((c.tc : Thread Cert.EvenRefIdeal.nD Cert.EvenRefIdeal.τ).loc Cert.EvenRefIdeal.main_arg3) = m ((c.tc : Thread Cert.EvenRefIdeal.nD Cert.EvenRefIdeal.τ).loc Cert.EvenRefIdeal.main_arg3)
      ∧ r.2.mem ((c.tc : Thread Cert.EvenRefIdeal.nD Cert.EvenRefIdeal.τ).loc Cert.EvenRefIdeal.main_arg4) = m ((c.tc : Thread Cert.EvenRefIdeal.nD Cert.EvenRefIdeal.τ).loc Cert.EvenRefIdeal.main_arg4)
      ∧ r.2.mem ((c.tc : Thread Cert.EvenRefIdeal.nD Cert.EvenRefIdeal.τ).loc Cert.EvenRefIdeal.main_arg5) = m ((c.tc : Thread Cert.EvenRefIdeal.nD Cert.EvenRefIdeal.τ).loc Cert.EvenRefIdeal.main_arg5)
      ∧ r.2.mem ((c.tc : Thread Cert.EvenRefIdeal.nD Cert.EvenRefIdeal.τ).loc Cert.EvenRefIdeal.main_arg6) = m ((c.tc : Thread Cert.EvenRefIdeal.nD Cert.EvenRefIdeal.τ).loc Cert.EvenRefIdeal.main_arg6)
      ∧ r.2.mem ((c.tc : Thread Cert.EvenRefIdeal.nD Cert.EvenRefIdeal.τ).loc Cert.EvenRefIdeal.main_arg7) = m ((c.tc : Thread Cert.EvenRefIdeal.nD Cert.EvenRefIdeal.τ).loc Cert.EvenRefIdeal.main_arg7)
      ∧ r.2.mem ((c.tc : Thread Cert.EvenRefIdeal.nD Cert.EvenRefIdeal.τ).loc Cert.EvenRefIdeal.main_arg8) = m ((c.tc : Thread Cert.EvenRefIdeal.nD Cert.EvenRefIdeal.τ).loc Cert.EvenRefIdeal.main_arg8)
      ∧ r.2.mem ((c.tc : Thread Cert.EvenRefIdeal.nD Cert.EvenRefIdeal.τ).loc Cert.EvenRefIdeal.main_arg9) = m ((c.tc : Thread Cert.EvenRefIdeal.nD Cert.EvenRefIdeal.τ).loc Cert.EvenRefIdeal.main_arg9)
      ∧ r.2.mem ((c.tc : Thread Cert.EvenRefIdeal.nD Cert.EvenRefIdeal.τ).loc Cert.EvenRefIdeal.main_arg10) = m ((c.tc : Thread Cert.EvenRefIdeal.nD Cert.EvenRefIdeal.τ).loc Cert.EvenRefIdeal.main_arg10))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def preserves_Attn_AttnIdeal : Prop :=
  True

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v5)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v62) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Even_EvenIdeal : Prop :=
  True

def algebraic_EvenIdeal_EvenRefIdeal [hEvenIdeal : Cert.EvenIdeal.Facts] [hEvenRefIdeal : Cert.EvenRefIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenRefIdeal.nD Cert.EvenRefIdeal.τ Cert.EvenRefIdeal.sig) → Buf (Elt Ideal) ℓ) (g' : Dev Cert.EvenRefIdeal.nD → PrngReg), Pre_EvenIdeal m →
    (∀ c : Dev Cert.EvenIdeal.nD,
      m' ((c.tc : Thread Cert.EvenRefIdeal.nD Cert.EvenRefIdeal.τ).loc Cert.EvenRefIdeal.main_arg0) = m ((c.tc : Thread Cert.EvenIdeal.nD Cert.EvenIdeal.τ).loc Cert.EvenIdeal.main_arg0)
      ∧ m' ((c.tc : Thread Cert.EvenRefIdeal.nD Cert.EvenRefIdeal.τ).loc Cert.EvenRefIdeal.main_arg1) = m ((c.tc : Thread Cert.EvenIdeal.nD Cert.EvenIdeal.τ).loc Cert.EvenIdeal.main_arg1)
      ∧ m' ((c.tc : Thread Cert.EvenRefIdeal.nD Cert.EvenRefIdeal.τ).loc Cert.EvenRefIdeal.main_arg2) = m ((c.tc : Thread Cert.EvenIdeal.nD Cert.EvenIdeal.τ).loc Cert.EvenIdeal.main_arg2)
      ∧ m' ((c.tc : Thread Cert.EvenRefIdeal.nD Cert.EvenRefIdeal.τ).loc Cert.EvenRefIdeal.main_arg3) = m ((c.tc : Thread Cert.EvenIdeal.nD Cert.EvenIdeal.τ).loc Cert.EvenIdeal.main_arg3)
      ∧ m' ((c.tc : Thread Cert.EvenRefIdeal.nD Cert.EvenRefIdeal.τ).loc Cert.EvenRefIdeal.main_arg4) = m ((c.tc : Thread Cert.EvenIdeal.nD Cert.EvenIdeal.τ).loc Cert.EvenIdeal.main_arg4)
      ∧ m' ((c.tc : Thread Cert.EvenRefIdeal.nD Cert.EvenRefIdeal.τ).loc Cert.EvenRefIdeal.main_arg5) = m ((c.tc : Thread Cert.EvenIdeal.nD Cert.EvenIdeal.τ).loc Cert.EvenIdeal.main_arg5)
      ∧ m' ((c.tc : Thread Cert.EvenRefIdeal.nD Cert.EvenRefIdeal.τ).loc Cert.EvenRefIdeal.main_arg6) = m ((c.tc : Thread Cert.EvenIdeal.nD Cert.EvenIdeal.τ).loc Cert.EvenIdeal.main_arg6)
      ∧ m' ((c.tc : Thread Cert.EvenRefIdeal.nD Cert.EvenRefIdeal.τ).loc Cert.EvenRefIdeal.main_arg7) = m ((c.tc : Thread Cert.EvenIdeal.nD Cert.EvenIdeal.τ).loc Cert.EvenIdeal.main_arg7)
      ∧ m' ((c.tc : Thread Cert.EvenRefIdeal.nD Cert.EvenRefIdeal.τ).loc Cert.EvenRefIdeal.main_arg8) = m ((c.tc : Thread Cert.EvenIdeal.nD Cert.EvenIdeal.τ).loc Cert.EvenIdeal.main_arg8)
      ∧ m' ((c.tc : Thread Cert.EvenRefIdeal.nD Cert.EvenRefIdeal.τ).loc Cert.EvenRefIdeal.main_arg9) = m ((c.tc : Thread Cert.EvenIdeal.nD Cert.EvenIdeal.τ).loc Cert.EvenIdeal.main_arg9)
      ∧ m' ((c.tc : Thread Cert.EvenRefIdeal.nD Cert.EvenRefIdeal.τ).loc Cert.EvenRefIdeal.main_arg10) = m ((c.tc : Thread Cert.EvenIdeal.nD Cert.EvenIdeal.τ).loc Cert.EvenIdeal.main_arg10)) →
    ∃ (v0 : (c : Dev Cert.EvenIdeal.nD) → Buf (Elt Ideal) ((c.tc : Thread Cert.EvenIdeal.nD Cert.EvenIdeal.τ).loc Cert.EvenIdeal.main_v24)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v24) = v0 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3)
          ∧ r.2.mem ((c.tc : Thread Cert.EvenIdeal.nD Cert.EvenIdeal.τ).loc Cert.EvenIdeal.main_arg4) = m ((c.tc : Thread Cert.EvenIdeal.nD Cert.EvenIdeal.τ).loc Cert.EvenIdeal.main_arg4)
          ∧ r.2.mem ((c.tc : Thread Cert.EvenIdeal.nD Cert.EvenIdeal.τ).loc Cert.EvenIdeal.main_arg5) = m ((c.tc : Thread Cert.EvenIdeal.nD Cert.EvenIdeal.τ).loc Cert.EvenIdeal.main_arg5)
          ∧ r.2.mem ((c.tc : Thread Cert.EvenIdeal.nD Cert.EvenIdeal.τ).loc Cert.EvenIdeal.main_arg6) = m ((c.tc : Thread Cert.EvenIdeal.nD Cert.EvenIdeal.τ).loc Cert.EvenIdeal.main_arg6)
          ∧ r.2.mem ((c.tc : Thread Cert.EvenIdeal.nD Cert.EvenIdeal.τ).loc Cert.EvenIdeal.main_arg7) = m ((c.tc : Thread Cert.EvenIdeal.nD Cert.EvenIdeal.τ).loc Cert.EvenIdeal.main_arg7)
          ∧ r.2.mem ((c.tc : Thread Cert.EvenIdeal.nD Cert.EvenIdeal.τ).loc Cert.EvenIdeal.main_arg8) = m ((c.tc : Thread Cert.EvenIdeal.nD Cert.EvenIdeal.τ).loc Cert.EvenIdeal.main_arg8)
          ∧ r.2.mem ((c.tc : Thread Cert.EvenIdeal.nD Cert.EvenIdeal.τ).loc Cert.EvenIdeal.main_arg9) = m ((c.tc : Thread Cert.EvenIdeal.nD Cert.EvenIdeal.τ).loc Cert.EvenIdeal.main_arg9)
          ∧ r.2.mem ((c.tc : Thread Cert.EvenIdeal.nD Cert.EvenIdeal.τ).loc Cert.EvenIdeal.main_arg10) = m ((c.tc : Thread Cert.EvenIdeal.nD Cert.EvenIdeal.τ).loc Cert.EvenIdeal.main_arg10))
      ∧ θ_run (Cert.EvenRefIdeal.defs (F := Ideal)) (onTc (τ := Cert.EvenRefIdeal.τ) (Cert.EvenRefIdeal.main (F := Ideal))) ⟨m', fun _ => 0, g'⟩ (fun r => ∀ c : Dev Cert.EvenRefIdeal.nD,
          r.2.mem ((c.tc : Thread Cert.EvenRefIdeal.nD Cert.EvenRefIdeal.τ).loc Cert.EvenRefIdeal.main_v239) = v0 c
          ∧ r.2.mem ((c.tc : Thread Cert.EvenRefIdeal.nD Cert.EvenRefIdeal.τ).loc Cert.EvenRefIdeal.main_arg0) = m' ((c.tc : Thread Cert.EvenRefIdeal.nD Cert.EvenRefIdeal.τ).loc Cert.EvenRefIdeal.main_arg0)
          ∧ r.2.mem ((c.tc : Thread Cert.EvenRefIdeal.nD Cert.EvenRefIdeal.τ).loc Cert.EvenRefIdeal.main_arg1) = m' ((c.tc : Thread Cert.EvenRefIdeal.nD Cert.EvenRefIdeal.τ).loc Cert.EvenRefIdeal.main_arg1)
          ∧ r.2.mem ((c.tc : Thread Cert.EvenRefIdeal.nD Cert.EvenRefIdeal.τ).loc Cert.EvenRefIdeal.main_arg2) = m' ((c.tc : Thread Cert.EvenRefIdeal.nD Cert.EvenRefIdeal.τ).loc Cert.EvenRefIdeal.main_arg2)
          ∧ r.2.mem ((c.tc : Thread Cert.EvenRefIdeal.nD Cert.EvenRefIdeal.τ).loc Cert.EvenRefIdeal.main_arg3) = m' ((c.tc : Thread Cert.EvenRefIdeal.nD Cert.EvenRefIdeal.τ).loc Cert.EvenRefIdeal.main_arg3)
          ∧ r.2.mem ((c.tc : Thread Cert.EvenRefIdeal.nD Cert.EvenRefIdeal.τ).loc Cert.EvenRefIdeal.main_arg4) = m' ((c.tc : Thread Cert.EvenRefIdeal.nD Cert.EvenRefIdeal.τ).loc Cert.EvenRefIdeal.main_arg4)
          ∧ r.2.mem ((c.tc : Thread Cert.EvenRefIdeal.nD Cert.EvenRefIdeal.τ).loc Cert.EvenRefIdeal.main_arg5) = m' ((c.tc : Thread Cert.EvenRefIdeal.nD Cert.EvenRefIdeal.τ).loc Cert.EvenRefIdeal.main_arg5)
          ∧ r.2.mem ((c.tc : Thread Cert.EvenRefIdeal.nD Cert.EvenRefIdeal.τ).loc Cert.EvenRefIdeal.main_arg6) = m' ((c.tc : Thread Cert.EvenRefIdeal.nD Cert.EvenRefIdeal.τ).loc Cert.EvenRefIdeal.main_arg6)
          ∧ r.2.mem ((c.tc : Thread Cert.EvenRefIdeal.nD Cert.EvenRefIdeal.τ).loc Cert.EvenRefIdeal.main_arg7) = m' ((c.tc : Thread Cert.EvenRefIdeal.nD Cert.EvenRefIdeal.τ).loc Cert.EvenRefIdeal.main_arg7)
          ∧ r.2.mem ((c.tc : Thread Cert.EvenRefIdeal.nD Cert.EvenRefIdeal.τ).loc Cert.EvenRefIdeal.main_arg8) = m' ((c.tc : Thread Cert.EvenRefIdeal.nD Cert.EvenRefIdeal.τ).loc Cert.EvenRefIdeal.main_arg8)
          ∧ r.2.mem ((c.tc : Thread Cert.EvenRefIdeal.nD Cert.EvenRefIdeal.τ).loc Cert.EvenRefIdeal.main_arg9) = m' ((c.tc : Thread Cert.EvenRefIdeal.nD Cert.EvenRefIdeal.τ).loc Cert.EvenRefIdeal.main_arg9)
          ∧ r.2.mem ((c.tc : Thread Cert.EvenRefIdeal.nD Cert.EvenRefIdeal.τ).loc Cert.EvenRefIdeal.main_arg10) = m' ((c.tc : Thread Cert.EvenRefIdeal.nD Cert.EvenRefIdeal.τ).loc Cert.EvenRefIdeal.main_arg10))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v2) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v19)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v19) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v70) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hEven : Cert.Even.Facts) (hEvenIdeal : Cert.EvenIdeal.Facts) (hEvenRefIdeal : Cert.EvenRefIdeal.Facts) (hKv : Cert.Kv.Facts) (hKvIdeal : Cert.KvIdeal.Facts) (hKvRefIdeal : Cert.KvRefIdeal.Facts) (hPost : Cert.Post.Facts) (hPostIdeal : Cert.PostIdeal.Facts) (hPostRefIdeal : Cert.PostRefIdeal.Facts),
    quiescent_Attn (hAttn := hAttn)
    ∧ quiescent_AttnIdeal (hAttnIdeal := hAttnIdeal)
    ∧ quiescent_AttnRefIdeal (hAttnRefIdeal := hAttnRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Even (hEven := hEven)
    ∧ quiescent_EvenIdeal (hEvenIdeal := hEvenIdeal)
    ∧ quiescent_EvenRefIdeal (hEvenRefIdeal := hEvenRefIdeal)
    ∧ quiescent_Kv (hKv := hKv)
    ∧ quiescent_KvIdeal (hKvIdeal := hKvIdeal)
    ∧ quiescent_KvRefIdeal (hKvRefIdeal := hKvRefIdeal)
    ∧ quiescent_Post (hPost := hPost)
    ∧ quiescent_PostIdeal (hPostIdeal := hPostIdeal)
    ∧ quiescent_PostRefIdeal (hPostRefIdeal := hPostRefIdeal)
    ∧ preserves_Attn_AttnIdeal
    ∧ algebraic_AttnIdeal_AttnRefIdeal (hAttnIdeal := hAttnIdeal) (hAttnRefIdeal := hAttnRefIdeal)
    ∧ preserves_Ffn_FfnIdeal
    ∧ algebraic_FfnIdeal_FfnRefIdeal (hFfnIdeal := hFfnIdeal) (hFfnRefIdeal := hFfnRefIdeal)
    ∧ preserves_Even_EvenIdeal
    ∧ algebraic_EvenIdeal_EvenRefIdeal (hEvenIdeal := hEvenIdeal) (hEvenRefIdeal := hEvenRefIdeal)
    ∧ preserves_Kv_KvIdeal
    ∧ algebraic_KvIdeal_KvRefIdeal (hKvIdeal := hKvIdeal) (hKvRefIdeal := hKvRefIdeal)
    ∧ preserves_Post_PostIdeal
    ∧ algebraic_PostIdeal_PostRefIdeal (hPostIdeal := hPostIdeal) (hPostRefIdeal := hPostRefIdeal)
-- ==== Attn.lean ====
abbrev S2x16384x1024 : Shape := ⟨3, ![2, 16384, 1024]⟩
abbrev S4x1024x1024 : Shape := ⟨3, ![4, 1024, 1024]⟩
abbrev S4x2x256x2048 : Shape := ⟨4, ![4, 2, 256, 2048]⟩
abbrev S4x4x1024 : Shape := ⟨3, ![4, 4, 1024]⟩
abbrev S32768x1024 : Shape := ⟨2, ![32768, 1024]⟩
abbrev S16x1x1024 : Shape := ⟨3, ![16, 1, 1024]⟩
abbrev S1024x1024 : Shape := ⟨2, ![1024, 1024]⟩
abbrev S1x1024x1024 : Shape := ⟨3, ![1, 1024, 1024]⟩
abbrev S1x1x256x2048 : Shape := ⟨4, ![1, 1, 256, 2048]⟩
abbrev S1x1x1024 : Shape := ⟨3, ![1, 1, 1024]⟩
abbrev S256x1024 : Shape := ⟨2, ![256, 1024]⟩
abbrev S256x256 : Shape := ⟨2, ![256, 256]⟩
abbrev S1x1x256x256 : Shape := ⟨4, ![1, 1, 256, 256]⟩
abbrev S256 : Shape := ⟨1, ![256]⟩
abbrev S256x1 : Shape := ⟨2, ![256, 1]⟩
abbrev S1x1024 : Shape := ⟨2, ![1, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x16384x1024, .f32⟩
  | .hbm, ⟨1, _⟩ => ⟨S4x1024x1024, .f32⟩
  | .hbm, ⟨2, _⟩ => ⟨S4x2x256x2048, .bf16⟩
  | .hbm, ⟨3, _⟩ => ⟨S4x1024x1024, .f32⟩
  | .hbm, ⟨4, _⟩ => ⟨S4x4x1024, .f32⟩
  | .hbm, ⟨5, _⟩ => ⟨S4x4x1024, .f32⟩
  | .hbm, ⟨6, _⟩ => ⟨S32768x1024, .f32⟩
  | .hbm, ⟨7, _⟩ => ⟨S4x1024x1024, .bf16⟩
  | .hbm, ⟨8, _⟩ => ⟨S4x1024x1024, .bf16⟩
  | .hbm, ⟨9, _⟩ => ⟨S16x1x1024, .f32⟩
  | .hbm, ⟨10, _⟩ => ⟨S16x1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1x256x2048, .bf16⟩
  | .local _ .vmem, ⟨4, _⟩ => ⟨S1x1x256x2048, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  let c0_i32_0 : BitVec 32 := 0#32
  let c0_i32_1 : BitVec 32 := 0#32
  ![c14_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c14_i32 : BitVec 32 := 14#32
  let c0_i32 : BitVec 32 := 0#32
  let c0_i32_0 : BitVec 32 := 0#32
  let c0_i32_1 : BitVec 32 := 0#32
  ![c14_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S2x16384x1024 : Shape := ⟨3, ![2, 16384, 1024]⟩
abbrev S4x1024x1024 : Shape := ⟨3, ![4, 1024, 1024]⟩
abbrev S4x2x256x2048 : Shape := ⟨4, ![4, 2, 256, 2048]⟩
abbrev S4x4x1024 : Shape := ⟨3, ![4, 4, 1024]⟩
abbrev S1x1024x1024 : Shape := ⟨3, ![1, 1024, 1024]⟩
abbrev S1024x1024 : Shape := ⟨2, ![1024, 1024]⟩
abbrev S2x16384x4x256 : Shape := ⟨4, ![2, 16384, 4, 256]⟩
abbrev S1x2x256x2048 : Shape := ⟨4, ![1, 2, 256, 2048]⟩
abbrev S2x256x2048 : Shape := ⟨3, ![2, 256, 2048]⟩
abbrev S2x256x1024 : Shape := ⟨3, ![2, 256, 1024]⟩
abbrev S2x256x4x256 : Shape := ⟨4, ![2, 256, 4, 256]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x256x16384 : Shape := ⟨4, ![2, 4, 256, 16384]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S32768x1024 : Shape := ⟨2, ![32768, 1024]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024x1024, .f32⟩
  | .hbm, ⟨2, _⟩ => ⟨S4x2x256x2048, .bf16⟩
  | .hbm, ⟨3, _⟩ => ⟨S4x1024x1024, .f32⟩
  | .hbm, ⟨4, _⟩ => ⟨S4x4x1024, .f32⟩
  | .hbm, ⟨5, _⟩ => ⟨S4x4x1024, .f32⟩
  | .hbm, ⟨6, _⟩ => ⟨S1x1024x1024, .f32⟩
  | .hbm, ⟨7, _⟩ => ⟨S1024x1024, .f32⟩
  | .hbm, ⟨8, _⟩ => ⟨S2x16384x1024, .f32⟩
  | .hbm, ⟨9, _⟩ => ⟨S2x16384x4x256, .f32⟩
  | .hbm, ⟨10, _⟩ => ⟨S1x2x256x2048, .bf16⟩
  | .hbm, ⟨11, _⟩ => ⟨S2x256x2048, .bf16⟩
  | .hbm, ⟨12, _⟩ => ⟨S2x256x2048, .f32⟩
  | .hbm, ⟨13, _⟩ => ⟨S2x256x1024, .f32⟩
  | .hbm, ⟨14, _⟩ => ⟨S2x256x1024, .f32⟩
  | .hbm, ⟨15, _⟩ => ⟨S2x256x4x256, .f32⟩
  | .hbm, ⟨16, _⟩ => ⟨S2x256x4x256, .f32⟩
  | .hbm, ⟨17, _⟩ => ⟨S2x4x16384x256, .f32⟩
  | .hbm, ⟨18, _⟩ => ⟨S_, .f32⟩
  | .hbm, ⟨19, _⟩ => ⟨S2x4x16384x256, .f32⟩
  | .hbm, ⟨20, _⟩ => ⟨S2x4x16384x256, .f32⟩
  | .hbm, ⟨21, _⟩ => ⟨S_, .f32⟩
  | .hbm, ⟨22, _⟩ => ⟨S2x4x16384, .f32⟩
  | .hbm, ⟨23, _⟩ => ⟨S_, .f32⟩
  | .hbm, ⟨24, _⟩ => ⟨S2x4x16384, .f32⟩
  | .hbm, ⟨25, _⟩ => ⟨S2x4x16384, .f32⟩
  | .hbm, ⟨26, _⟩ => ⟨S2x4x16384x1, .f32⟩
  | .hbm, ⟨27, _⟩ => ⟨S2x4x16384x256, .f32⟩
  | .hbm, ⟨28, _⟩ => ⟨S2x4x16384x256, .f32⟩
  | .hbm, ⟨29, _⟩ => ⟨S2x4x16384x256, .f32⟩
  | .hbm, ⟨30, _⟩ => ⟨S_, .f32⟩
  | .hbm, ⟨31, _⟩ => ⟨S2x4x16384, .f32⟩
  | .hbm, ⟨32, _⟩ => ⟨S2x4x16384x1, .f32⟩
  | .hbm, ⟨33, _⟩ => ⟨S2x4x16384x256, .f32⟩
  | .hbm, ⟨34, _⟩ => ⟨S2x4x16384x256, .f32⟩
  | .hbm, ⟨35, _⟩ => ⟨S2x4x256x16384, .f32⟩
  | .hbm, ⟨36, _⟩ => ⟨S2x16384x4x256, .f32⟩
  | .hbm, ⟨37, _⟩ => ⟨S2x16384x1024, .f32⟩
  | .hbm, ⟨38, _⟩ => ⟨S_, .f32⟩
  | .hbm, ⟨39, _⟩ => ⟨S2x16384x1024, .f32⟩
  | .hbm, ⟨40, _⟩ => ⟨S2x16384x1024, .f32⟩
  | .hbm, ⟨41, _⟩ => ⟨S1x1024x1024, .f32⟩
  | .hbm, ⟨42, _⟩ => ⟨S1024x1024, .f32⟩
  | .hbm, ⟨43, _⟩ => ⟨S2x16384x1024, .f32⟩
  | .hbm, ⟨44, _⟩ => ⟨S2x16384x1024, .f32⟩
  | .hbm, ⟨45, _⟩ => ⟨S1x1x1024, .f32⟩
  | .hbm, ⟨46, _⟩ => ⟨S1024, .f32⟩
  | .hbm, ⟨47, _⟩ => ⟨S1x1x1024, .f32⟩
  | .hbm, ⟨48, _⟩ => ⟨S1024, .f32⟩
  | .hbm, ⟨49, _⟩ => ⟨S_, .f32⟩
  | .hbm, ⟨50, _⟩ => ⟨S2x16384, .f32⟩
  | .hbm, ⟨51, _⟩ => ⟨S2x16384x1, .f32⟩
  | .hbm, ⟨52, _⟩ => ⟨S_, .f32⟩
  | .hbm, ⟨53, _⟩ => ⟨S2x16384x1, .f32⟩
  | .hbm, ⟨54, _⟩ => ⟨S2x16384x1, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S_, .f32⟩
  | .hbm, ⟨59, _⟩ => ⟨S2x16384, .f32⟩
  | .hbm, ⟨60, _⟩ => ⟨S2x16384x1, .f32⟩
  | .hbm, ⟨61, _⟩ => ⟨S_, .f32⟩
  | .hbm, ⟨62, _⟩ => ⟨S2x16384x1, .f32⟩
  | .hbm, ⟨63, _⟩ => ⟨S2x16384x1, .f32⟩
  | .hbm, ⟨64, _⟩ => ⟨S2x16384x1024, .f32⟩
  | .hbm, ⟨65, _⟩ => ⟨S2x16384x1024, .f32⟩
  | .hbm, ⟨66, _⟩ => ⟨S_, .f32⟩
  | .hbm, ⟨67, _⟩ => ⟨S2x16384x1, .f32⟩
  | .hbm, ⟨68, _⟩ => ⟨S2x16384x1, .f32⟩
  | .hbm, ⟨69, _⟩ => ⟨S2x16384x1, .f32⟩
  | .hbm, ⟨70, _⟩ => ⟨S2x16384x1024, .f32⟩
  | .hbm, ⟨71, _⟩ => ⟨S2x16384x1024, .f32⟩
  | .hbm, ⟨72, _⟩ => ⟨S1x1x1024, .f32⟩
  | .hbm, ⟨73, _⟩ => ⟨S2x16384x1024, .f32⟩
  | .hbm, ⟨74, _⟩ => ⟨S2x16384x1024, .f32⟩
  | .hbm, ⟨75, _⟩ => ⟨S1x1x1024, .f32⟩
  | .hbm, ⟨76, _⟩ => ⟨S2x16384x1024, .f32⟩
  | .hbm, ⟨77, _⟩ => ⟨S2x16384x1024, .f32⟩
  | .hbm, ⟨78, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Ffn.lean ====
abbrev S2x16384x1024 : Shape := ⟨3, ![2, 16384, 1024]⟩
abbrev S4x1024x5632 : Shape := ⟨3, ![4, 1024, 5632]⟩
abbrev S4x2816x1024 : Shape := ⟨3, ![4, 2816, 1024]⟩
abbrev S4x4x1024 : Shape := ⟨3, ![4, 4, 1024]⟩
abbrev S32768x1024 : Shape := ⟨2, ![32768, 1024]⟩
abbrev S16x1x1024 : Shape := ⟨3, ![16, 1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1x1x1024 : Shape := ⟨3, ![1, 1, 1024]⟩
abbrev S1024x2816 : Shape := ⟨2, ![1024, 2816]⟩
abbrev S256x1024 : Shape := ⟨2, ![256, 1024]⟩
abbrev S1x1024x256 : Shape := ⟨3, ![1, 1024, 256]⟩
abbrev S1024x256 : Shape := ⟨2, ![1024, 256]⟩
abbrev S256x256 : Shape := ⟨2, ![256, 256]⟩
abbrev S256x2816 : Shape := ⟨2, ![256, 2816]⟩
abbrev S2816x1024 : Shape := ⟨2, ![2816, 1024]⟩
abbrev S1x1024 : Shape := ⟨2, ![1, 1024]⟩
abbrev S256 : Shape := ⟨1, ![256]⟩
abbrev S256x1 : Shape := ⟨2, ![256, 1]⟩

abbrev nBuf : Space → Nat
  | .hbm => 11
  | .vmem => 9
  | .smem => 0
  | _ => 0

abbrev bufTy : (tb : Table) → Fin (tcTables nBuf tb) → BufTy
  | .hbm, ⟨0, _⟩ => ⟨S2x16384x1024, .f32⟩
  | .hbm, ⟨1, _⟩ => ⟨S4x1024x5632, .f32⟩
  | .hbm, ⟨2, _⟩ => ⟨S4x2816x1024, .f32⟩
  | .hbm, ⟨3, _⟩ => ⟨S4x4x1024, .f32⟩
  | .hbm, ⟨4, _⟩ => ⟨S4x4x1024, .f32⟩
  | .hbm, ⟨5, _⟩ => ⟨S32768x1024, .f32⟩
  | .hbm, ⟨6, _⟩ => ⟨S4x1024x5632, .bf16⟩
  | .hbm, ⟨7, _⟩ => ⟨S4x2816x1024, .bf16⟩
  | .hbm, ⟨8, _⟩ => ⟨S16x1x1024, .f32⟩
  | .hbm, ⟨9, _⟩ => ⟨S16x1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x5632, .bf16⟩
  | .local _ .vmem, ⟨3, _⟩ => ⟨S1x2816x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 3 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  ![c15_i32.toNat, c0_i32.toNat, c0_i32_0.toNat]

def cc0_transform_4 (i : grid0.Coords) : Fin 3 → Nat :=
  let arg0 : BitVec 32 := BitVec.ofNat 32 (i 0).val
  let c15_i32 : BitVec 32 := 15#32
  let c0_i32 : BitVec 32 := 0#32
  let c0_i32_0 : BitVec 32 := 0#32
  let c0_i32_1 : BitVec 32 := 0#32
  ![c15_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S2x16384x1024 : Shape := ⟨3, ![2, 16384, 1024]⟩
abbrev S4x1024x5632 : Shape := ⟨3, ![4, 1024, 5632]⟩
abbrev S4x2816x1024 : Shape := ⟨3, ![4, 2816, 1024]⟩
abbrev S4x4x1024 : Shape := ⟨3, ![4, 4, 1024]⟩
abbrev S1x1024x5632 : Shape := ⟨3, ![1, 1024, 5632]⟩
abbrev S1024x5632 : Shape := ⟨2, ![1024, 5632]⟩
abbrev S2x16384x5632 : Shape := ⟨3, ![2, 16384, 5632]⟩
abbrev S2x16384x2816 : Shape := ⟨3, ![2, 16384, 2816]⟩
abbrev S_ : Shape := ⟨0, ![]⟩
abbrev S1x2816x1024 : Shape := ⟨3, ![1, 2816, 1024]⟩
abbrev S2816x1024 : Shape := ⟨2, ![2816, 1024]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S32768x1024 : Shape := ⟨2, ![32768, 1024]⟩

abbrev nBuf : Space → Nat
  | .hbm => 64
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S4x1024x5632, .f32⟩
  | .hbm, ⟨2, _⟩ => ⟨S4x2816x1024, .f32⟩
  | .hbm, ⟨3, _⟩ => ⟨S4x4x1024, .f32⟩
  | .hbm, ⟨4, _⟩ => ⟨S4x4x1024, .f32⟩
  | .hbm, ⟨5, _⟩ => ⟨S1x1024x5632, .f32⟩
  | .hbm, ⟨6, _⟩ => ⟨S1024x5632, .f32⟩
  | .hbm, ⟨7, _⟩ => ⟨S2x16384x5632, .f32⟩
  | .hbm, ⟨8, _⟩ => ⟨S2x16384x2816, .f32⟩
  | .hbm, ⟨9, _⟩ => ⟨S2x16384x2816, .f32⟩
  | .hbm, ⟨10, _⟩ => ⟨S2x16384x2816, .f32⟩
  | .hbm, ⟨11, _⟩ => ⟨S2x16384x2816, .f32⟩
  | .hbm, ⟨12, _⟩ => ⟨S_, .f32⟩
  | .hbm, ⟨13, _⟩ => ⟨S2x16384x2816, .f32⟩
  | .hbm, ⟨14, _⟩ => ⟨S2x16384x2816, .f32⟩
  | .hbm, ⟨15, _⟩ => ⟨S_, .f32⟩
  | .hbm, ⟨16, _⟩ => ⟨S2x16384x2816, .f32⟩
  | .hbm, ⟨17, _⟩ => ⟨S2x16384x2816, .f32⟩
  | .hbm, ⟨18, _⟩ => ⟨S2x16384x2816, .f32⟩
  | .hbm, ⟨19, _⟩ => ⟨S2x16384x2816, .f32⟩
  | .hbm, ⟨20, _⟩ => ⟨S1x2816x1024, .f32⟩
  | .hbm, ⟨21, _⟩ => ⟨S2816x1024, .f32⟩
  | .hbm, ⟨22, _⟩ => ⟨S2x16384x1024, .f32⟩
  | .hbm, ⟨23, _⟩ => ⟨S_, .f32⟩
  | .hbm, ⟨24, _⟩ => ⟨S2x16384x1024, .f32⟩
  | .hbm, ⟨25, _⟩ => ⟨S2x16384x1024, .f32⟩
  | .hbm, ⟨26, _⟩ => ⟨S_, .f32⟩
  | .hbm, ⟨27, _⟩ => ⟨S2x16384x1024, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S1024, .f32⟩
  | .hbm, ⟨32, _⟩ => ⟨S1x1x1024, .f32⟩
  | .hbm, ⟨33, _⟩ => ⟨S1024, .f32⟩
  | .hbm, ⟨34, _⟩ => ⟨S_, .f32⟩
  | .hbm, ⟨35, _⟩ => ⟨S2x16384, .f32⟩
  | .hbm, ⟨36, _⟩ => ⟨S2x16384x1, .f32⟩
  | .hbm, ⟨37, _⟩ => ⟨S_, .f32⟩
  | .hbm, ⟨38, _⟩ => ⟨S2x16384x1, .f32⟩
  | .hbm, ⟨39, _⟩ => ⟨S2x16384x1, .f32⟩
  | .hbm, ⟨40, _⟩ => ⟨S2x16384x1024, .f32⟩
  | .hbm, ⟨41, _⟩ => ⟨S2x16384x1024, .f32⟩
  | .hbm, ⟨42, _⟩ => ⟨S2x16384x1024, .f32⟩
  | .hbm, ⟨43, _⟩ => ⟨S_, .f32⟩
  | .hbm, ⟨44, _⟩ => ⟨S2x16384, .f32⟩
  | .hbm, ⟨45, _⟩ => ⟨S2x16384x1, .f32⟩
  | .hbm, ⟨46, _⟩ => ⟨S_, .f32⟩
  | .hbm, ⟨47, _⟩ => ⟨S2x16384x1, .f32⟩
  | .hbm, ⟨48, _⟩ => ⟨S2x16384x1, .f32⟩
  | .hbm, ⟨49, _⟩ => ⟨S2x16384x1024, .f32⟩
  | .hbm, ⟨50, _⟩ => ⟨S2x16384x1024, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1, .f32⟩
  | .hbm, ⟨55, _⟩ => ⟨S2x16384x1024, .f32⟩
  | .hbm, ⟨56, _⟩ => ⟨S2x16384x1024, .f32⟩
  | .hbm, ⟨57, _⟩ => ⟨S1x1x1024, .f32⟩
  | .hbm, ⟨58, _⟩ => ⟨S2x16384x1024, .f32⟩
  | .hbm, ⟨59, _⟩ => ⟨S2x16384x1024, .f32⟩
  | .hbm, ⟨60, _⟩ => ⟨S1x1x1024, .f32⟩
  | .hbm, ⟨61, _⟩ => ⟨S2x16384x1024, .f32⟩
  | .hbm, ⟨62, _⟩ => ⟨S2x16384x1024, .f32⟩
  | .hbm, ⟨63, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Even.lean ====
abbrev S2x16384x1024 : Shape := ⟨3, ![2, 16384, 1024]⟩
abbrev S2x1024x1536 : Shape := ⟨3, ![2, 1024, 1536]⟩
abbrev S2x1024x1024 : Shape := ⟨3, ![2, 1024, 1024]⟩
abbrev S2x4x128x128 : Shape := ⟨4, ![2, 4, 128, 128]⟩
abbrev S2x512 : Shape := ⟨2, ![2, 512]⟩
abbrev S2x4x128 : Shape := ⟨3, ![2, 4, 128]⟩
abbrev S4x4x1024 : Shape := ⟨3, ![4, 4, 1024]⟩
abbrev S32768x1024 : Shape := ⟨2, ![32768, 1024]⟩
abbrev S2x2x2x128x128 : Shape := ⟨5, ![2, 2, 2, 128, 128]⟩
abbrev S2x2 : Shape := ⟨2, ![2, 2]⟩
abbrev S_ : Shape := ⟨0, ![]⟩
abbrev S2x2x2x128x1x128 : Shape := ⟨6, ![2, 2, 2, 128, 1, 128]⟩
abbrev S2x1x2x1 : Shape := ⟨4, ![2, 1, 2, 1]⟩
abbrev S1x1x2x1x2x1 : Shape := ⟨6, ![1, 1, 2, 1, 2, 1]⟩
abbrev S2x2x2x128x2x128 : Shape := ⟨6, ![2, 2, 2, 128, 2, 128]⟩
abbrev S2x2x256x256 : Shape := ⟨4, ![2, 2, 256, 256]⟩
abbrev S2x128x4 : Shape := ⟨3, ![2, 128, 4]⟩
abbrev S2x1x512 : Shape := ⟨3, ![2, 1, 512]⟩
abbrev S16x1x1024 : Shape := ⟨3, ![16, 1, 1024]⟩
abbrev S1024x1024 : Shape := ⟨2, ![1024, 1024]⟩
abbrev S1x1024x1536 : Shape := ⟨3, ![1, 1024, 1536]⟩
abbrev S1x1024x1024 : Shape := ⟨3, ![1, 1024, 1024]⟩
abbrev S1x2x256x256 : Shape := ⟨4, ![1, 2, 256, 256]⟩
abbrev S1x1x512 : Shape := ⟨3, ![1, 1, 512]⟩
abbrev S1x4x128x128 : Shape := ⟨4, ![1, 4, 128, 128]⟩
abbrev S1x128x4 : Shape := ⟨3, ![1, 128, 4]⟩
abbrev S1x1x1024 : Shape := ⟨3, ![1, 1, 1024]⟩
abbrev S1040x512 : Shape := ⟨2, ![1040, 512]⟩
abbrev S16x512 : Shape := ⟨2, ![16, 512]⟩
abbrev S256x1024 : Shape := ⟨2, ![256, 1024]⟩
abbrev S1024x1536 : Shape := ⟨2, ![1024, 1536]⟩
abbrev S256x1536 : Shape := ⟨2, ![256, 1536]⟩
abbrev S256x512 : Shape := ⟨2, ![256, 512]⟩
abbrev S128x128 : Shape := ⟨2, ![128, 128]⟩
abbrev S1x1x128x128 : Shape := ⟨4, ![1, 1, 128, 128]⟩
abbrev S272x512 : Shape := ⟨2, ![272, 512]⟩
abbrev S256x1 : Shape := ⟨2, ![256, 1]⟩
abbrev S272x128 : Shape := ⟨2, ![272, 128]⟩
abbrev S256x128 : Shape := ⟨2, ![256, 128]⟩
abbrev S256x256 : Shape := ⟨2, ![256, 256]⟩
abbrev S1x1x256x256 : Shape := ⟨4, ![1, 1, 256, 256]⟩
abbrev S1x512 : Shape := ⟨2, ![1, 512]⟩
abbrev S256 : Shape := ⟨1, ![256]⟩
abbrev S1x128x1 : Shape := ⟨3, ![1, 128, 1]⟩
abbrev S128x1 : Shape := ⟨2, ![128, 1]⟩
abbrev S128x256 : Shape := ⟨2, ![128, 256]⟩
abbrev S128x512 : Shape := ⟨2, ![128, 512]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 37
  | .vmem => 15
  | .smem => 0
  | _ => 0

abbrev bufTy : (tb : Table) → Fin (tcTables nBuf tb) → BufTy
  | .hbm, ⟨0, _⟩ => ⟨S2x16384x1024, .f32⟩
  | .hbm, ⟨1, _⟩ => ⟨S2x1024x1536, .f32⟩
  | .hbm, ⟨2, _⟩ => ⟨S2x1024x1024, .f32⟩
  | .hbm, ⟨3, _⟩ => ⟨S2x4x128x128, .f32⟩
  | .hbm, ⟨4, _⟩ => ⟨S2x512, .f32⟩
  | .hbm, ⟨5, _⟩ => ⟨S2x512, .f32⟩
  | .hbm, ⟨6, _⟩ => ⟨S2x512, .f32⟩
  | .hbm, ⟨7, _⟩ => ⟨S2x4x128x128, .f32⟩
  | .hbm, ⟨8, _⟩ => ⟨S2x4x128, .f32⟩
  | .hbm, ⟨9, _⟩ => ⟨S4x4x1024, .f32⟩
  | .hbm, ⟨10, _⟩ => ⟨S4x4x1024, .f32⟩
  | .hbm, ⟨11, _⟩ => ⟨S32768x1024, .f32⟩
  | .hbm, ⟨12, _⟩ => ⟨S2x2x2x128x128, .f32⟩
  | .hbm, ⟨13, _⟩ => ⟨S2x2, .i32⟩
  | .hbm, ⟨14, _⟩ => ⟨S2x2, .i32⟩
  | .hbm, ⟨15, _⟩ => ⟨S_, .i32⟩
  | .hbm, ⟨16, _⟩ => ⟨S2x2, .i32⟩
  | .hbm, ⟨17, _⟩ => ⟨S2x2, .i32⟩
  | .hbm, ⟨18, _⟩ => ⟨S2x2, .i1⟩
  | .hbm, ⟨19, _⟩ => ⟨S2x2, .f32⟩
  | .hbm, ⟨20, _⟩ => ⟨S2x2x2x128x1x128, .f32⟩
  | .hbm, ⟨21, _⟩ => ⟨S2x1x2x1, .f32⟩
  | .hbm, ⟨22, _⟩ => ⟨S1x1x2x1x2x1, .f32⟩
  | .hbm, ⟨23, _⟩ => ⟨S2x2x2x128x2x128, .f32⟩
  | .hbm, ⟨24, _⟩ => ⟨S2x2x2x128x2x128, .f32⟩
  | .hbm, ⟨25, _⟩ => ⟨S2x2x2x128x2x128, .f32⟩
  | .hbm, ⟨26, _⟩ => ⟨S2x2x256x256, .f32⟩
  | .hbm, ⟨27, _⟩ => ⟨S2x2x256x256, .bf16⟩
  | .hbm, ⟨28, _⟩ => ⟨S2x128x4, .f32⟩
  | .hbm, ⟨29, _⟩ => ⟨S2x1024x1536, .bf16⟩
  | .hbm, ⟨30, _⟩ => ⟨S2x1024x1024, .bf16⟩
  | .hbm, ⟨31, _⟩ => ⟨S2x1x512, .f32⟩
  | .hbm, ⟨32, _⟩ => ⟨S2x1x512, .f32⟩
  | .hbm, ⟨33, _⟩ => ⟨S2x1x512, .f32⟩
  | .hbm, ⟨34, _⟩ => ⟨S16x1x1024, .f32⟩
  | .hbm, ⟨35, _⟩ => ⟨S16x1x1024, .f32⟩
  | .hbm, ⟨36, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1536, .bf16⟩
  | .local _ .vmem, ⟨3, _⟩ => ⟨S1x1024x1024, .bf16⟩
  | .local _ .vmem, ⟨4, _⟩ => ⟨S1x2x256x256, .bf16⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1x4x128x128, .f32⟩
  | .local _ .vmem, ⟨9, _⟩ => ⟨S1x128x4, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | .local _ .vmem, ⟨14, _⟩ => ⟨S1040x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== EvenRefIdeal.lean ====
abbrev S2x16384x1024 : Shape := ⟨3, ![2, 16384, 1024]⟩
abbrev S2x1024x1536 : Shape := ⟨3, ![2, 1024, 1536]⟩
abbrev S2x1024x1024 : Shape := ⟨3, ![2, 1024, 1024]⟩
abbrev S2x4x128x128 : Shape := ⟨4, ![2, 4, 128, 128]⟩
abbrev S2x512 : Shape := ⟨2, ![2, 512]⟩
abbrev S2x4x128 : Shape := ⟨3, ![2, 4, 128]⟩
abbrev S4x4x1024 : Shape := ⟨3, ![4, 4, 1024]⟩
abbrev S1x1024x1536 : Shape := ⟨3, ![1, 1024, 1536]⟩
abbrev S1024x1536 : Shape := ⟨2, ![1024, 1536]⟩
abbrev S2x16384x1536 : Shape := ⟨3, ![2, 16384, 1536]⟩
abbrev S2x16384x512 : Shape := ⟨3, ![2, 16384, 512]⟩
abbrev S16384 : Shape := ⟨1, ![16384]⟩
abbrev S_ : Shape := ⟨0, ![]⟩
abbrev S1x16384x1 : Shape := ⟨3, ![1, 16384, 1]⟩
abbrev S2x16384x128 : Shape := ⟨3, ![2, 16384, 128]⟩
abbrev S2x16383x128 : Shape := ⟨3, ![2, 16383, 128]⟩
abbrev S2x16382x128 : Shape := ⟨3, ![2, 16382, 128]⟩
abbrev S2x16381x128 : Shape := ⟨3, ![2, 16381, 128]⟩
abbrev S2x16380x128 : Shape := ⟨3, ![2, 16380, 128]⟩
abbrev S2x16379x128 : Shape := ⟨3, ![2, 16379, 128]⟩
abbrev S2x16378x128 : Shape := ⟨3, ![2, 16378, 128]⟩
abbrev S2x16377x128 : Shape := ⟨3, ![2, 16377, 128]⟩
abbrev S2x16376x128 : Shape := ⟨3, ![2, 16376, 128]⟩
abbrev S2x16375x128 : Shape := ⟨3, ![2, 16375, 128]⟩
abbrev S2x16374x128 : Shape := ⟨3, ![2, 16374, 128]⟩
abbrev S2x16373x128 : Shape := ⟨3, ![2, 16373, 128]⟩
abbrev S2x16372x128 : Shape := ⟨3, ![2, 16372, 128]⟩
abbrev S2x16371x128 : Shape := ⟨3, ![2, 16371, 128]⟩
abbrev S2x16370x128 : Shape := ⟨3, ![2, 16370, 128]⟩
abbrev S2x16369x128 : Shape := ⟨3, ![2, 16369, 128]⟩
abbrev S2x16384x1x128 : Shape := ⟨4, ![2, 16384, 1, 128]⟩
abbrev S2x16384x4x128 : Shape := ⟨4, ![2, 16384, 4, 128]⟩
abbrev S1x4x128x128 : Shape := ⟨4, ![1, 4, 128, 128]⟩
abbrev S4x128x128 : Shape := ⟨3, ![4, 128, 128]⟩
abbrev S4x128x2x16384 : Shape := ⟨4, ![4, 128, 2, 16384]⟩
abbrev S1x512 : Shape := ⟨2, ![1, 512]⟩
abbrev S512 : Shape := ⟨1, ![512]⟩
abbrev S1x1x512 : Shape := ⟨3, ![1, 1, 512]⟩
abbrev S2x16384 : Shape := ⟨2, ![2, 16384]⟩
abbrev S2x16384x1 : Shape := ⟨3, ![2, 16384, 1]⟩
abbrev S2x128x128x4x128 : Shape := ⟨5, ![2, 128, 128, 4, 128]⟩
abbrev S128x128 : Shape := ⟨2, ![128, 128]⟩
abbrev S4x2x128x128x128 : Shape := ⟨5, ![4, 2, 128, 128, 128]⟩
abbrev S1x4x128 : Shape := ⟨3, ![1, 4, 128]⟩
abbrev S4x128 : Shape := ⟨2, ![4, 128]⟩
abbrev S128x4 : Shape := ⟨2, ![128, 4]⟩
abbrev S1x1x128x4x1 : Shape := ⟨5, ![1, 1, 128, 4, 1]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S32768x1024 : Shape := ⟨2, ![32768, 1024]⟩

abbrev nBuf : Space → Nat
  | .hbm => 340
  | .vmem => 0
  | .smem => 0
  | _ => 0

abbrev hbmTy0_0 (i : Nat) : BufTy := match i % 128 with
  | 0 => ⟨S2x16384x1024, .f32⟩
  | 1 => ⟨S2x1024x1536, .f32⟩
  | 2 => ⟨S2x1024x1024, .f32⟩
  | 3 => ⟨S2x4x128x128, .f32⟩
  | 4 => ⟨S2x512, .f32⟩
  | 5 => ⟨S2x512, .f32⟩
  | 6 => ⟨S2x512, .f32⟩
  | 7 => ⟨S2x4x128x128, .f32⟩
  | 8 => ⟨S2x4x128, .f32⟩
  | 9 => ⟨S4x4x1024, .f32⟩
  | 10 => ⟨S4x4x1024, .f32⟩
  | 11 => ⟨S1x1024x1536, .f32⟩
  | 12 => ⟨S1024x1536, .f32⟩
  | 13 => ⟨S2x16384x1536, .f32⟩
  | 14 => ⟨S2x16384x512, .f32⟩
  | 15 => ⟨S2x16384x512, .f32⟩
  | 16 => ⟨S2x16384x512, .f32⟩
  | 17 => ⟨S16384, .i32⟩
  | 18 => ⟨S_, .i32⟩
  | 19 => ⟨S16384, .i32⟩
  | 20 => ⟨S16384, .i32⟩
  | 21 => ⟨S16384, .f32⟩
  | 22 => ⟨S1x16384x1, .f32⟩
  | 23 => ⟨S2x16384x128, .f32⟩
  | 24 => ⟨S_, .f32⟩
  | 25 => ⟨S2x16384x128, .f32⟩
  | 26 => ⟨S2x16384x128, .f32⟩
  | 27 => ⟨S2x16383x128, .f32⟩
  | 28 => ⟨S_, .i32⟩
  | 29 => ⟨S_, .f32⟩
  | 30 => ⟨S2x16384x128, .f32⟩
  | 31 => ⟨S2x16384x128, .f32⟩
  | 32 => ⟨S_, .f32⟩
  | 33 => ⟨S1x16384x1, .f32⟩
  | 34 => ⟨S1x16384x1, .f32⟩
  | 35 => ⟨S2x16384x128, .f32⟩
  | 36 => ⟨S2x16384x128, .f32⟩
  | 37 => ⟨S2x16384x128, .f32⟩
  | 38 => ⟨S2x16384x128, .f32⟩
  | 39 => ⟨S_, .f32⟩
  | 40 => ⟨S2x16384x128, .f32⟩
  | 41 => ⟨S2x16384x128, .f32⟩
  | 42 => ⟨S2x16383x128, .f32⟩
  | 43 => ⟨S_, .i32⟩
  | 44 => ⟨S_, .f32⟩
  | 45 => ⟨S2x16384x128, .f32⟩
  | 46 => ⟨S2x16384x128, .f32⟩
  | 47 => ⟨S2x16382x128, .f32⟩
  | 48 => ⟨S_, .i32⟩
  | 49 => ⟨S_, .f32⟩
  | 50 => ⟨S2x16384x128, .f32⟩
  | 51 => ⟨S2x16384x128, .f32⟩
  | 52 => ⟨S2x16381x128, .f32⟩
  | 53 => ⟨S_, .i32⟩
  | 54 => ⟨S_, .f32⟩
  | 55 => ⟨S2x16384x128, .f32⟩
  | 56 => ⟨S2x16384x128, .f32⟩
  | 57 => ⟨S_, .f32⟩
  | 58 => ⟨S1x16384x1, .f32⟩
  | 59 => ⟨S1x16384x1, .f32⟩
  | 60 => ⟨S2x16384x128, .f32⟩
  | 61 => ⟨S2x16384x128, .f32⟩
  | 62 => ⟨S2x16384x128, .f32⟩
  | 63 => ⟨S2x16384x128, .f32⟩
  | 64 => ⟨S_, .f32⟩
  | 65 => ⟨S2x16384x128, .f32⟩
  | 66 => ⟨S2x16384x128, .f32⟩
  | 67 => ⟨S2x16383x128, .f32⟩
  | 68 => ⟨S_, .i32⟩
  | 69 => ⟨S_, .f32⟩
  | 70 => ⟨S2x16384x128, .f32⟩
  | 71 => ⟨S2x16384x128, .f32⟩
  | 72 => ⟨S2x16382x128, .f32⟩
  | 73 => ⟨S_, .i32⟩
  | 74 => ⟨S_, .f32⟩
  | 75 => ⟨S2x16384x128, .f32⟩
  | 76 => ⟨S2x16384x128, .f32⟩
  | 77 => ⟨S2x16381x128, .f32⟩
  | 78 => ⟨S_, .i32⟩
  | 79 => ⟨S_, .f32⟩
  | 80 => ⟨S2x16384x128, .f32⟩
  | 81 => ⟨S2x16384x128, .f32⟩
  | 82 => ⟨S2x16380x128, .f32⟩
  | 83 => ⟨S_, .i32⟩
  | 84 => ⟨S_, .f32⟩
  | 85 => ⟨S2x16384x128, .f32⟩
  | 86 => ⟨S2x16384x128, .f32⟩
  | 87 => ⟨S2x16379x128, .f32⟩
  | 88 => ⟨S_, .i32⟩
  | 89 => ⟨S_, .f32⟩
  | 90 => ⟨S2x16384x128, .f32⟩
  | 91 => ⟨S2x16384x128, .f32⟩
  | 92 => ⟨S2x16378x128, .f32⟩
  | 93 => ⟨S_, .i32⟩
  | 94 => ⟨S_, .f32⟩
  | 95 => ⟨S2x16384x128, .f32⟩
  | 96 => ⟨S2x16384x128, .f32⟩
  | 97 => ⟨S2x16377x128, .f32⟩
  | 98 => ⟨S_, .i32⟩
  | 99 => ⟨S_, .f32⟩
  | 100 => ⟨S2x16384x128, .f32⟩
  | 101 => ⟨S2x16384x128, .f32⟩
  | 102 => ⟨S_, .f32⟩
  | 103 => ⟨S1x16384x1, .f32⟩
  | 104 => ⟨S1x16384x1, .f32⟩
  | 105 => ⟨S2x16384x128, .f32⟩
  | 106 => ⟨S2x16384x128, .f32⟩
  | 107 => ⟨S2x16384x128, .f32⟩
  | 108 => ⟨S2x16384x128, .f32⟩
  | 109 => ⟨S_, .f32⟩
  | 110 => ⟨S2x16384x128, .f32⟩
  | 111 => ⟨S2x16384x128, .f32⟩
  | 112 => ⟨S2x16383x128, .f32⟩
  | 113 => ⟨S_, .i32⟩
  | 114 => ⟨S_, .f32⟩
  | 115 => ⟨S2x16384x128, .f32⟩
  | 116 => ⟨S2x16384x128, .f32⟩
  | 117 => ⟨S2x16382x128, .f32⟩
  | 118 => ⟨S_, .i32⟩
  | 119 => ⟨S_, .f32⟩
  | 120 => ⟨S2x16384x128, .f32⟩
  | 121 => ⟨S2x16384x128, .f32⟩
  | 122 => ⟨S2x16381x128, .f32⟩
  | 123 => ⟨S_, .i32⟩
  | 124 => ⟨S_, .f32⟩
  | 125 => ⟨S2x16384x128, .f32⟩
  | 126 => ⟨S2x16384x128, .f32⟩
  | 127 => ⟨S2x16380x128, .f32⟩
  | _ => ⟨S2x16384x1024, .f32⟩

abbrev hbmTy0_1 (i : Nat) : BufTy := match i % 128 with
  | 0 => ⟨S_, .i32⟩
  | 1 => ⟨S_, .f32⟩
  | 2 => ⟨S2x16384x128, .f32⟩
  | 3 => ⟨S2x16384x128, .f32⟩
  | 4 => ⟨S2x16379x128, .f32⟩
  | 5 => ⟨S_, .i32⟩
  | 6 => ⟨S_, .f32⟩
  | 7 => ⟨S2x16384x128, .f32⟩
  | 8 => ⟨S2x16384x128, .f32⟩
  | 9 => ⟨S2x16378x128, .f32⟩
  | 10 => ⟨S_, .i32⟩
  | 11 => ⟨S_, .f32⟩
  | 12 => ⟨S2x16384x128, .f32⟩
  | 13 => ⟨S2x16384x128, .f32⟩
  | 14 => ⟨S2x16377x128, .f32⟩
  | 15 => ⟨S_, .i32⟩
  | 16 => ⟨S_, .f32⟩
  | 17 => ⟨S2x16384x128, .f32⟩
  | 18 => ⟨S2x16384x128, .f32⟩
  | 19 => ⟨S2x16376x128, .f32⟩
  | 20 => ⟨S_, .i32⟩
  | 21 => ⟨S_, .f32⟩
  | 22 => ⟨S2x16384x128, .f32⟩
  | 23 => ⟨S2x16384x128, .f32⟩
  | 24 => ⟨S2x16375x128, .f32⟩
  | 25 => ⟨S_, .i32⟩
  | 26 => ⟨S_, .f32⟩
  | 27 => ⟨S2x16384x128, .f32⟩
  | 28 => ⟨S2x16384x128, .f32⟩
  | 29 => ⟨S2x16374x128, .f32⟩
  | 30 => ⟨S_, .i32⟩
  | 31 => ⟨S_, .f32⟩
  | 32 => ⟨S2x16384x128, .f32⟩
  | 33 => ⟨S2x16384x128, .f32⟩
  | 34 => ⟨S2x16373x128, .f32⟩
  | 35 => ⟨S_, .i32⟩
  | 36 => ⟨S_, .f32⟩
  | 37 => ⟨S2x16384x128, .f32⟩
  | 38 => ⟨S2x16384x128, .f32⟩
  | 39 => ⟨S2x16372x128, .f32⟩
  | 40 => ⟨S_, .i32⟩
  | 41 => ⟨S_, .f32⟩
  | 42 => ⟨S2x16384x128, .f32⟩
  | 43 => ⟨S2x16384x128, .f32⟩
  | 44 => ⟨S2x16371x128, .f32⟩
  | 45 => ⟨S_, .i32⟩
  | 46 => ⟨S_, .f32⟩
  | 47 => ⟨S2x16384x128, .f32⟩
  | 48 => ⟨S2x16384x128, .f32⟩
  | 49 => ⟨S2x16370x128, .f32⟩
  | 50 => ⟨S_, .i32⟩
  | 51 => ⟨S_, .f32⟩
  | 52 => ⟨S2x16384x128, .f32⟩
  | 53 => ⟨S2x16384x128, .f32⟩
  | 54 => ⟨S2x16369x128, .f32⟩
  | 55 => ⟨S_, .i32⟩
  | 56 => ⟨S_, .f32⟩
  | 57 => ⟨S2x16384x128, .f32⟩
  | 58 => ⟨S2x16384x128, .f32⟩
  | 59 => ⟨S_, .f32⟩
  | 60 => ⟨S1x16384x1, .f32⟩
  | 61 => ⟨S1x16384x1, .f32⟩
  | 62 => ⟨S2x16384x128, .f32⟩
  | 63 => ⟨S2x16384x128, .f32⟩
  | 64 => ⟨S2x16384x128, .f32⟩
  | 65 => ⟨S2x16384x1x128, .f32⟩
  | 66 => ⟨S2x16384x1x128, .f32⟩
  | 67 => ⟨S2x16384x1x128, .f32⟩
  | 68 => ⟨S2x16384x1x128, .f32⟩
  | 69 => ⟨S2x16384x4x128, .f32⟩
  | 70 => ⟨S1x4x128x128, .f32⟩
  | 71 => ⟨S4x128x128, .f32⟩
  | 72 => ⟨S4x128x2x16384, .f32⟩
  | 73 => ⟨S2x16384x4x128, .f32⟩
  | 74 => ⟨S2x16384x512, .f32⟩
  | 75 => ⟨S1x512, .f32⟩
  | 76 => ⟨S512, .f32⟩
  | 77 => ⟨S1x1x512, .f32⟩
  | 78 => ⟨S2x16384x512, .f32⟩
  | 79 => ⟨S2x16384x512, .f32⟩
  | 80 => ⟨S2x16384x512, .f32⟩
  | 81 => ⟨S2x16384x512, .f32⟩
  | 82 => ⟨S_, .f32⟩
  | 83 => ⟨S2x16384x512, .f32⟩
  | 84 => ⟨S2x16384x512, .f32⟩
  | 85 => ⟨S2x16384x512, .f32⟩
  | 86 => ⟨S_, .f32⟩
  | 87 => ⟨S2x16384x512, .f32⟩
  | 88 => ⟨S2x16384x512, .f32⟩
  | 89 => ⟨S2x16384x512, .f32⟩
  | 90 => ⟨S_, .f32⟩
  | 91 => ⟨S2x16384x512, .f32⟩
  | 92 => ⟨S2x16384x512, .f32⟩
  | 93 => ⟨S_, .f32⟩
  | 94 => ⟨S2x16384x512, .f32⟩
  | 95 => ⟨S2x16384x512, .f32⟩
  | 96 => ⟨S2x16384x512, .f32⟩
  | 97 => ⟨S2x16384x512, .f32⟩
  | 98 => ⟨S2x16384x512, .f32⟩
  | 99 => ⟨S_, .f32⟩
  | 100 => ⟨S2x16384x512, .f32⟩
  | 101 => ⟨S2x16384x512, .f32⟩
  | 102 => ⟨S2x16384x512, .f32⟩
  | 103 => ⟨S_, .f32⟩
  | 104 => ⟨S2x16384x512, .f32⟩
  | 105 => ⟨S2x16384x512, .f32⟩
  | 106 => ⟨S2x16384x512, .f32⟩
  | 107 => ⟨S_, .f32⟩
  | 108 => ⟨S2x16384x512, .f32⟩
  | 109 => ⟨S2x16384x512, .f32⟩
  | 110 => ⟨S_, .f32⟩
  | 111 => ⟨S2x16384x512, .f32⟩
  | 112 => ⟨S2x16384x512, .f32⟩
  | 113 => ⟨S2x16384x512, .f32⟩
  | 114 => ⟨S1x512, .f32⟩
  | 115 => ⟨S512, .f32⟩
  | 116 => ⟨S1x512, .f32⟩
  | 117 => ⟨S512, .f32⟩
  | 118 => ⟨S_, .f32⟩
  | 119 => ⟨S2x16384, .f32⟩
  | 120 => ⟨S2x16384x1, .f32⟩
  | 121 => ⟨S_, .f32⟩
  | 122 => ⟨S2x16384x1, .f32⟩
  | 123 => ⟨S2x16384x1, .f32⟩
  | 124 => ⟨S2x16384x512, .f32⟩
  | 125 => ⟨S2x16384x512, .f32⟩
  | 126 => ⟨S2x16384x512, .f32⟩
  | 127 => ⟨S_, .f32⟩
  | _ => ⟨S2x16384x1024, .f32⟩

abbrev hbmTy0_2 (i : Nat) : BufTy := match i % 128 with
  | 0 => ⟨S2x16384, .f32⟩
  | 1 => ⟨S2x16384x1, .f32⟩
  | 2 => ⟨S_, .f32⟩
  | 3 => ⟨S2x16384x1, .f32⟩
  | 4 => ⟨S2x16384x1, .f32⟩
  | 5 => ⟨S2x16384x512, .f32⟩
  | 6 => ⟨S2x16384x512, .f32⟩
  | 7 => ⟨S_, .f32⟩
  | 8 => ⟨S2x16384x1, .f32⟩
  | 9 => ⟨S2x16384x1, .f32⟩
  | 10 => ⟨S2x16384x1, .f32⟩
  | 11 => ⟨S2x16384x512, .f32⟩
  | 12 => ⟨S2x16384x512, .f32⟩
  | 13 => ⟨S1x1x512, .f32⟩
  | 14 => ⟨S2x16384x512, .f32⟩
  | 15 => ⟨S2x16384x512, .f32⟩
  | 16 => ⟨S1x1x512, .f32⟩
  | 17 => ⟨S2x16384x512, .f32⟩
  | 18 => ⟨S2x16384x512, .f32⟩
  | 19 => ⟨S2x128x128x4x128, .f32⟩
  | 20 => ⟨S1x4x128x128, .f32⟩
  | 21 => ⟨S4x128x128, .f32⟩
  | 22 => ⟨S128x128, .i32⟩
  | 23 => ⟨S_, .i32⟩
  | 24 => ⟨S128x128, .i32⟩
  | 25 => ⟨S128x128, .i32⟩
  | 26 => ⟨S128x128, .i32⟩
  | 27 => ⟨S128x128, .i1⟩
  | 28 => ⟨S4x128x128, .i1⟩
  | 29 => ⟨S_, .f32⟩
  | 30 => ⟨S4x128x128, .f32⟩
  | 31 => ⟨S4x128x128, .f32⟩
  | 32 => ⟨S4x2x128x128x128, .f32⟩
  | 33 => ⟨S2x128x128x4x128, .f32⟩
  | 34 => ⟨S1x4x128, .f32⟩
  | 35 => ⟨S4x128, .f32⟩
  | 36 => ⟨S128x4, .f32⟩
  | 37 => ⟨S1x1x128x4x1, .f32⟩
  | 38 => ⟨S2x128x128x4x128, .f32⟩
  | 39 => ⟨S2x128x128x4x128, .f32⟩
  | 40 => ⟨S2x16384x512, .f32⟩
  | 41 => ⟨S2x16384x512, .f32⟩
  | 42 => ⟨S2x16384x1024, .f32⟩
  | 43 => ⟨S1x1024x1024, .f32⟩
  | 44 => ⟨S1024x1024, .f32⟩
  | 45 => ⟨S2x16384x1024, .f32⟩
  | 46 => ⟨S_, .f32⟩
  | 47 => ⟨S2x16384x1024, .f32⟩
  | 48 => ⟨S2x16384x1024, .f32⟩
  | 49 => ⟨S2x16384x1024, .f32⟩
  | 50 => ⟨S1x1x1024, .f32⟩
  | 51 => ⟨S1024, .f32⟩
  | 52 => ⟨S1x1x1024, .f32⟩
  | 53 => ⟨S1024, .f32⟩
  | 54 => ⟨S_, .f32⟩
  | 55 => ⟨S2x16384, .f32⟩
  | 56 => ⟨S2x16384x1, .f32⟩
  | 57 => ⟨S_, .f32⟩
  | 58 => ⟨S2x16384x1, .f32⟩
  | 59 => ⟨S2x16384x1, .f32⟩
  | 60 => ⟨S2x16384x1024, .f32⟩
  | 61 => ⟨S2x16384x1024, .f32⟩
  | 62 => ⟨S2x16384x1024, .f32⟩
  | 63 => ⟨S_, .f32⟩
  | 64 => ⟨S2x16384, .f32⟩
  | 65 => ⟨S2x16384x1, .f32⟩
  | 66 => ⟨S_, .f32⟩
  | 67 => ⟨S2x16384x1, .f32⟩
  | 68 => ⟨S2x16384x1, .f32⟩
  | 69 => ⟨S2x16384x1024, .f32⟩
  | 70 => ⟨S2x16384x1024, .f32⟩
  | 71 => ⟨S_, .f32⟩
  | 72 => ⟨S2x16384x1, .f32⟩
  | 73 => ⟨S2x16384x1, .f32⟩
  | 74 => ⟨S2x16384x1, .f32⟩
  | 75 => ⟨S2x16384x1024, .f32⟩
  | 76 => ⟨S2x16384x1024, .f32⟩
  | 77 => ⟨S1x1x1024, .f32⟩
  | 78 => ⟨S2x16384x1024, .f32⟩
  | 79 => ⟨S2x16384x1024, .f32⟩
  | 80 => ⟨S1x1x1024, .f32⟩
  | 81 => ⟨S2x16384x1024, .f32⟩
  | 82 => ⟨S2x16384x1024, .f32⟩
  | 83 => ⟨S32768x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_0 : Ref sig .tc := ⟨.hbm, 28, rfl⟩
abbrev main_call0_v0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_call1_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_call2_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_call3_v0 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_call4_v0 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_call5_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_call6_v0 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_11 : Ref sig .tc := ⟨.hbm, 83, rfl⟩
abbrev main_call7_v0 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_c_12 : Ref sig .tc := ⟨.hbm, 88, rfl⟩
abbrev main_call8_v0 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_13 : Ref sig .tc := ⟨.hbm, 93, rfl⟩
abbrev main_call9_v0 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_14 : Ref sig .tc := ⟨.hbm, 98, rfl⟩
abbrev main_call10_v0 : Ref sig .tc := ⟨.hbm, 99, rfl⟩
abbrev main_v61 : Ref sig .tc := ⟨.hbm, 100, rfl⟩
abbrev main_v62 : Ref sig .tc := ⟨.hbm, 101, rfl⟩
abbrev main_cst_15 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_16 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_c_17 : Ref sig .tc := ⟨.hbm, 113, rfl⟩
abbrev main_call11_v0 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_c_18 : Ref sig .tc := ⟨.hbm, 118, rfl⟩
abbrev main_call12_v0 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_19 : Ref sig .tc := ⟨.hbm, 123, rfl⟩
abbrev main_call13_v0 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_c_20 : Ref sig .tc := ⟨.hbm, 128, rfl⟩
abbrev main_call14_v0 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_21 : Ref sig .tc := ⟨.hbm, 133, rfl⟩
abbrev main_call15_v0 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_c_22 : Ref sig .tc := ⟨.hbm, 138, rfl⟩
abbrev main_call16_v0 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_c_23 : Ref sig .tc := ⟨.hbm, 143, rfl⟩
abbrev main_call17_v0 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_24 : Ref sig .tc := ⟨.hbm, 148, rfl⟩
abbrev main_call18_v0 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_c_25 : Ref sig .tc := ⟨.hbm, 153, rfl⟩
abbrev main_call19_v0 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_c_26 : Ref sig .tc := ⟨.hbm, 158, rfl⟩
abbrev main_call20_v0 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_c_27 : Ref sig .tc := ⟨.hbm, 163, rfl⟩
abbrev main_call21_v0 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_c_28 : Ref sig .tc := ⟨.hbm, 168, rfl⟩
abbrev main_call22_v0 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_c_29 : Ref sig .tc := ⟨.hbm, 173, rfl⟩
abbrev main_call23_v0 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_c_30 : Ref sig .tc := ⟨.hbm, 178, rfl⟩
abbrev main_call24_v0 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_c_31 : Ref sig .tc := ⟨.hbm, 183, rfl⟩
abbrev main_call25_v0 : Ref sig .tc := ⟨.hbm, 184, rfl⟩
abbrev main_v114 : Ref sig .tc := ⟨.hbm, 185, rfl⟩
abbrev main_v115 : Ref sig .tc := ⟨.hbm, 186, rfl⟩
abbrev main_cst_32 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_cst_33 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_34 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_cst_35 : Ref sig .tc := ⟨.hbm, 218, rfl⟩
abbrev main_v144 : Ref sig .tc := ⟨.hbm, 219, rfl⟩
abbrev main_v145 : Ref sig .tc := ⟨.hbm, 220, rfl⟩
abbrev main_cst_36 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_cst_37 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_cst_38 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_cst_39 : Ref sig .tc := ⟨.hbm, 235, rfl⟩
abbrev main_v157 : Ref sig .tc := ⟨.hbm, 236, rfl⟩
abbrev main_v158 : Ref sig .tc := ⟨.hbm, 237, rfl⟩
abbrev main_cst_40 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_41 : Ref sig .tc := ⟨.hbm, 246, rfl⟩
abbrev main_v166 : Ref sig .tc := ⟨.hbm, 247, rfl⟩
abbrev main_v167 : Ref sig .tc := ⟨.hbm, 248, rfl⟩
abbrev main_cst_42 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_cst_43 : Ref sig .tc := ⟨.hbm, 255, rfl⟩
abbrev main_v173 : Ref sig .tc := ⟨.hbm, 256, rfl⟩
abbrev main_v174 : Ref sig .tc := ⟨.hbm, 257, rfl⟩
abbrev main_cst_44 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_cst_45 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_call26_v0 : Ref sig .tc := ⟨.hbm, 278, rfl⟩
abbrev main_call26_c : Ref sig .tc := ⟨.hbm, 279, rfl⟩
abbrev main_call26_v1 : Ref sig .tc := ⟨.hbm, 280, rfl⟩
abbrev main_call26_v2 : Ref sig .tc := ⟨.hbm, 281, rfl⟩
abbrev main_call26_v3 : Ref sig .tc := ⟨.hbm, 282, rfl⟩
abbrev main_call26_v4 : Ref sig .tc := ⟨.hbm, 283, rfl⟩
abbrev main_call26_v5 : Ref sig .tc := ⟨.hbm, 284, rfl⟩
abbrev main_call26_cst : Ref sig .tc := ⟨.hbm, 285, rfl⟩
abbrev main_call26_v6 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_cst_46 : Ref sig .tc := ⟨.hbm, 302, rfl⟩
abbrev main_v208 : Ref sig .tc := ⟨.hbm, 303, rfl⟩
abbrev main_v209 : Ref sig .tc := ⟨.hbm, 304, rfl⟩
abbrev main_v210 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_cst_47 : Ref sig .tc := ⟨.hbm, 310, rfl⟩
abbrev main_v215 : Ref sig .tc := ⟨.hbm, 311, rfl⟩
abbrev main_v216 : Ref sig .tc := ⟨.hbm, 312, rfl⟩
abbrev main_cst_48 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_cst_49 : Ref sig .tc := ⟨.hbm, 319, rfl⟩
abbrev main_v222 : Ref sig .tc := ⟨.hbm, 320, rfl⟩
abbrev main_v223 : Ref sig .tc := ⟨.hbm, 321, rfl⟩
abbrev main_cst_50 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_cst_51 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩

abbrev nD : Nat := 1
abbrev τ : Topo := Topo.v7x

variable {F : FTy → Type} [FloatOps F]
-- ==== Kv.lean ====
abbrev S2x256x1024 : Shape := ⟨3, ![2, 256, 1024]⟩
abbrev S4x1024x2048 : Shape := ⟨3, ![4, 1024, 2048]⟩
abbrev S4x2x256x2048 : Shape := ⟨4, ![4, 2, 256, 2048]⟩
abbrev S1x256x1024 : Shape := ⟨3, ![1, 256, 1024]⟩
abbrev S1x1024x2048 : Shape := ⟨3, ![1, 1024, 2048]⟩
abbrev S1x1x256x2048 : Shape := ⟨4, ![1, 1, 256, 2048]⟩
abbrev S256x1024 : Shape := ⟨2, ![256, 1024]⟩
abbrev S1024x2048 : Shape := ⟨2, ![1024, 2048]⟩
abbrev S256x2048 : Shape := ⟨2, ![256, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S4x1024x2048, .f32⟩
  | .hbm, ⟨2, _⟩ => ⟨S4x1024x2048, .bf16⟩
  | .hbm, ⟨3, _⟩ => ⟨S4x2x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x256x2048, .bf16⟩
  | .local _ .vmem, ⟨5, _⟩ => ⟨S1x1x256x2048, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvRefIdeal.lean ====
abbrev S2x256x1024 : Shape := ⟨3, ![2, 256, 1024]⟩
abbrev S4x1024x2048 : Shape := ⟨3, ![4, 1024, 2048]⟩
abbrev S4x2048x2x256 : Shape := ⟨4, ![4, 2048, 2, 256]⟩
abbrev S4x2x256x2048 : Shape := ⟨4, ![4, 2, 256, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S4x1024x2048, .f32⟩
  | .hbm, ⟨2, _⟩ => ⟨S4x2048x2x256, .f32⟩
  | .hbm, ⟨3, _⟩ => ⟨S4x2x256x2048, .f32⟩
  | .hbm, ⟨4, _⟩ => ⟨S4x2x256x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Post.lean ====
abbrev S2x16384x1024 : Shape := ⟨3, ![2, 16384, 1024]⟩
abbrev S32768x512 : Shape := ⟨2, ![32768, 512]⟩
abbrev S2x512 : Shape := ⟨2, ![2, 512]⟩
abbrev S2x1024x1024 : Shape := ⟨3, ![2, 1024, 1024]⟩
abbrev S4x4x1024 : Shape := ⟨3, ![4, 4, 1024]⟩
abbrev S32768x1024 : Shape := ⟨2, ![32768, 1024]⟩
abbrev S_ : Shape := ⟨0, ![]⟩
abbrev S8x64x64 : Shape := ⟨3, ![8, 64, 64]⟩
abbrev S8x8 : Shape := ⟨2, ![8, 8]⟩
abbrev S8x64x1x64 : Shape := ⟨4, ![8, 64, 1, 64]⟩
abbrev S8x1x8x1 : Shape := ⟨4, ![8, 1, 8, 1]⟩
abbrev S8x64x8x64 : Shape := ⟨4, ![8, 64, 8, 64]⟩
abbrev S512x512 : Shape := ⟨2, ![512, 512]⟩
abbrev S2x1x512 : Shape := ⟨3, ![2, 1, 512]⟩
abbrev S16x1x1024 : Shape := ⟨3, ![16, 1, 1024]⟩
abbrev S1024x1024 : Shape := ⟨2, ![1024, 1024]⟩
abbrev S1024x512 : Shape := ⟨2, ![1024, 512]⟩
abbrev S1x1x512 : Shape := ⟨3, ![1, 1, 512]⟩
abbrev S1x1024x1024 : Shape := ⟨3, ![1, 1024, 1024]⟩
abbrev S1x1x1024 : Shape := ⟨3, ![1, 1, 1024]⟩
abbrev S256x512 : Shape := ⟨2, ![256, 512]⟩
abbrev S1x512 : Shape := ⟨2, ![1, 512]⟩
abbrev S1x512x1024 : Shape := ⟨3, ![1, 512, 1024]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 32
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S2x512, .f32⟩
  | .hbm, ⟨6, _⟩ => ⟨S2x512, .f32⟩
  | .hbm, ⟨7, _⟩ => ⟨S2x1024x1024, .f32⟩
  | .hbm, ⟨8, _⟩ => ⟨S4x4x1024, .f32⟩
  | .hbm, ⟨9, _⟩ => ⟨S4x4x1024, .f32⟩
  | .hbm, ⟨10, _⟩ => ⟨S32768x1024, .f32⟩
  | .hbm, ⟨11, _⟩ => ⟨S_, .bf16⟩
  | .hbm, ⟨12, _⟩ => ⟨S8x64x64, .bf16⟩
  | .hbm, ⟨13, _⟩ => ⟨S8x8, .i32⟩
  | .hbm, ⟨14, _⟩ => ⟨S8x8, .i32⟩
  | .hbm, ⟨15, _⟩ => ⟨S_, .i32⟩
  | .hbm, ⟨16, _⟩ => ⟨S8x8, .i32⟩
  | .hbm, ⟨17, _⟩ => ⟨S8x8, .i32⟩
  | .hbm, ⟨18, _⟩ => ⟨S8x8, .i1⟩
  | .hbm, ⟨19, _⟩ => ⟨S8x8, .bf16⟩
  | .hbm, ⟨20, _⟩ => ⟨S8x64x1x64, .bf16⟩
  | .hbm, ⟨21, _⟩ => ⟨S8x1x8x1, .bf16⟩
  | .hbm, ⟨22, _⟩ => ⟨S8x64x8x64, .bf16⟩
  | .hbm, ⟨23, _⟩ => ⟨S8x64x8x64, .bf16⟩
  | .hbm, ⟨24, _⟩ => ⟨S8x64x8x64, .bf16⟩
  | .hbm, ⟨25, _⟩ => ⟨S512x512, .bf16⟩
  | .hbm, ⟨26, _⟩ => ⟨S2x1x512, .f32⟩
  | .hbm, ⟨27, _⟩ => ⟨S2x1x512, .f32⟩
  | .hbm, ⟨28, _⟩ => ⟨S2x1024x1024, .bf16⟩
  | .hbm, ⟨29, _⟩ => ⟨S16x1x1024, .f32⟩
  | .hbm, ⟨30, _⟩ => ⟨S16x1x1024, .f32⟩
  | .hbm, ⟨31, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S512x512, .bf16⟩
  | .local _ .vmem, ⟨13, _⟩ => ⟨S1x1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1024x1024, .f32⟩
  | .local _ .vmem, ⟨17, _⟩ => ⟨S1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  let c0_i32_0 : BitVec 32 := 0#32
  let c0_i32_1 : BitVec 32 := 0#32
  ![c13_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  let c0_i32_0 : BitVec 32 := 0#32
  let c0_i32_1 : BitVec 32 := 0#32
  ![c13_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== PostRefIdeal.lean ====
abbrev S2x16384x1024 : Shape := ⟨3, ![2, 16384, 1024]⟩
abbrev S32768x512 : Shape := ⟨2, ![32768, 512]⟩
abbrev S2x512 : Shape := ⟨2, ![2, 512]⟩
abbrev S2x1024x1024 : Shape := ⟨3, ![2, 1024, 1024]⟩
abbrev S4x4x1024 : Shape := ⟨3, ![4, 4, 1024]⟩
abbrev S2x16384x8x64 : Shape := ⟨4, ![2, 16384, 8, 64]⟩
abbrev S_ : Shape := ⟨0, ![]⟩
abbrev S2x16384x8 : Shape := ⟨3, ![2, 16384, 8]⟩
abbrev S2x16384x8x1 : Shape := ⟨4, ![2, 16384, 8, 1]⟩
abbrev S2x16384x512 : Shape := ⟨3, ![2, 16384, 512]⟩
abbrev S1x512 : Shape := ⟨2, ![1, 512]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S32768x1024 : Shape := ⟨2, ![32768, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S32768x512, .f32⟩
  | .hbm, ⟨2, _⟩ => ⟨S32768x512, .f32⟩
  | .hbm, ⟨3, _⟩ => ⟨S32768x512, .f32⟩
  | .hbm, ⟨4, _⟩ => ⟨S32768x512, .f32⟩
  | .hbm, ⟨5, _⟩ => ⟨S2x512, .f32⟩
  | .hbm, ⟨6, _⟩ => ⟨S2x512, .f32⟩
  | .hbm, ⟨7, _⟩ => ⟨S2x1024x1024, .f32⟩
  | .hbm, ⟨8, _⟩ => ⟨S4x4x1024, .f32⟩
  | .hbm, ⟨9, _⟩ => ⟨S4x4x1024, .f32⟩
  | .hbm, ⟨10, _⟩ => ⟨S2x16384x8x64, .f32⟩
  | .hbm, ⟨11, _⟩ => ⟨S_, .f32⟩
  | .hbm, ⟨12, _⟩ => ⟨S2x16384x8, .f32⟩
  | .hbm, ⟨13, _⟩ => ⟨S2x16384x8x1, .f32⟩
  | .hbm, ⟨14, _⟩ => ⟨S_, .f32⟩
  | .hbm, ⟨15, _⟩ => ⟨S2x16384x8x1, .f32⟩
  | .hbm, ⟨16, _⟩ => ⟨S2x16384x8x1, .f32⟩
  | .hbm, ⟨17, _⟩ => ⟨S2x16384x8x64, .f32⟩
  | .hbm, ⟨18, _⟩ => ⟨S2x16384x8x64, .f32⟩
  | .hbm, ⟨19, _⟩ => ⟨S2x16384x8x64, .f32⟩
  | .hbm, ⟨20, _⟩ => ⟨S_, .f32⟩
  | .hbm, ⟨21, _⟩ => ⟨S2x16384x8, .f32⟩
  | .hbm, ⟨22, _⟩ => ⟨S2x16384x8x1, .f32⟩
  | .hbm, ⟨23, _⟩ => ⟨S_, .f32⟩
  | .hbm, ⟨24, _⟩ => ⟨S2x16384x8x1, .f32⟩
  | .hbm, ⟨25, _⟩ => ⟨S2x16384x8x1, .f32⟩
  | .hbm, ⟨26, _⟩ => ⟨S2x16384x8x64, .f32⟩
  | .hbm, ⟨27, _⟩ => ⟨S2x16384x8x64, .f32⟩
  | .hbm, ⟨28, _⟩ => ⟨S_, .f32⟩
  | .hbm, ⟨29, _⟩ => ⟨S2x16384x8x1, .f32⟩
  | .hbm, ⟨30, _⟩ => ⟨S2x16384x8x1, .f32⟩
  | .hbm, ⟨31, _⟩ => ⟨S2x16384x8x1, .f32⟩
  | .hbm, ⟨32, _⟩ => ⟨S2x16384x8x64, .f32⟩
  | .hbm, ⟨33, _⟩ => ⟨S2x16384x8x64, .f32⟩
  | .hbm, ⟨34, _⟩ => ⟨S2x16384x512, .f32⟩
  | .hbm, ⟨35, _⟩ => ⟨S1x512, .f32⟩
  | .hbm, ⟨36, _⟩ => ⟨S512, .f32⟩
  | .hbm, ⟨37, _⟩ => ⟨S1x1x512, .f32⟩
  | .hbm, ⟨38, _⟩ => ⟨S2x16384x512, .f32⟩
  | .hbm, ⟨39, _⟩ => ⟨S2x16384x512, .f32⟩
  | .hbm, ⟨40, _⟩ => ⟨S1x512, .f32⟩
  | .hbm, ⟨41, _⟩ => ⟨S512, .f32⟩
  | .hbm, ⟨42, _⟩ => ⟨S1x1x512, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S2x16384x512, .f32⟩
  | .hbm, ⟨47, _⟩ => ⟨S2x16384x512, .f32⟩
  | .hbm, ⟨48, _⟩ => ⟨S2x16384x512, .f32⟩
  | .hbm, ⟨49, _⟩ => ⟨S2x16384x512, .f32⟩
  | .hbm, ⟨50, _⟩ => ⟨S2x16384x1024, .f32⟩
  | .hbm, ⟨51, _⟩ => ⟨S1x1024x1024, .f32⟩
  | .hbm, ⟨52, _⟩ => ⟨S1024x1024, .f32⟩
  | .hbm, ⟨53, _⟩ => ⟨S2x16384x1024, .f32⟩
  | .hbm, ⟨54, _⟩ => ⟨S_, .f32⟩
  | .hbm, ⟨55, _⟩ => ⟨S2x16384x1024, .f32⟩
  | .hbm, ⟨56, _⟩ => ⟨S2x16384x1024, .f32⟩
  | .hbm, ⟨57, _⟩ => ⟨S2x16384x1024, .f32⟩
  | .hbm, ⟨58, _⟩ => ⟨S1x1x1024, .f32⟩
  | .hbm, ⟨59, _⟩ => ⟨S1024, .f32⟩
  | .hbm, ⟨60, _⟩ => ⟨S1x1x1024, .f32⟩
  | .hbm, ⟨61, _⟩ => ⟨S1024, .f32⟩
  | .hbm, ⟨62, _⟩ => ⟨S_, .f32⟩
  | .hbm, ⟨63, _⟩ => ⟨S2x16384, .f32⟩
  | .hbm, ⟨64, _⟩ => ⟨S2x16384x1, .f32⟩
  | .hbm, ⟨65, _⟩ => ⟨S_, .f32⟩
  | .hbm, ⟨66, _⟩ => ⟨S2x16384x1, .f32⟩
  | .hbm, ⟨67, _⟩ => ⟨S2x16384x1, .f32⟩
  | .hbm, ⟨68, _⟩ => ⟨S2x16384x1024, .f32⟩
  | .hbm, ⟨69, _⟩ => ⟨S2x16384x1024, .f32⟩
  | .hbm, ⟨70, _⟩ => ⟨S2x16384x1024, .f32⟩
  | .hbm, ⟨71, _⟩ => ⟨S_, .f32⟩
  | .hbm, ⟨72, _⟩ => ⟨S2x16384, .f32⟩
  | .hbm, ⟨73, _⟩ => ⟨S2x16384x1, .f32⟩
  | .hbm, ⟨74, _⟩ => ⟨S_, .f32⟩
  | .hbm, ⟨75, _⟩ => ⟨S2x16384x1, .f32⟩
  | .hbm, ⟨76, _⟩ => ⟨S2x16384x1, .f32⟩
  | .hbm, ⟨77, _⟩ => ⟨S2x16384x1024, .f32⟩
  | .hbm, ⟨78, _⟩ => ⟨S2x16384x1024, .f32⟩
  | .hbm, ⟨79, _⟩ => ⟨S_, .f32⟩
  | .hbm, ⟨80, _⟩ => ⟨S2x16384x1, .f32⟩
  | .hbm, ⟨81, _⟩ => ⟨S2x16384x1, .f32⟩
  | .hbm, ⟨82, _⟩ => ⟨S2x16384x1, .f32⟩
  | .hbm, ⟨83, _⟩ => ⟨S2x16384x1024, .f32⟩
  | .hbm, ⟨84, _⟩ => ⟨S2x16384x1024, .f32⟩
  | .hbm, ⟨85, _⟩ => ⟨S1x1x1024, .f32⟩
  | .hbm, ⟨86, _⟩ => ⟨S2x16384x1024, .f32⟩
  | .hbm, ⟨87, _⟩ => ⟨S2x16384x1024, .f32⟩
  | .hbm, ⟨88, _⟩ => ⟨S1x1x1024, .f32⟩
  | .hbm, ⟨89, _⟩ => ⟨S2x16384x1024, .f32⟩
  | .hbm, ⟨90, _⟩ => ⟨S2x16384x1024, .f32⟩
  | .hbm, ⟨91, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_9 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Proof.TrunkSpec.lean ====
module

public import Idealize.ShloMosaic.Lib.Pointwise
public import Idealize.ShloMosaic.PureOps.Ideal.Laws

@[expose] public section

noncomputable section

/-! What the layers compute, one row (one position of one sequence) at a time, as functions on the
extended reals. Nothing here mentions tiles, grids or buffers. -/

namespace Cert.Trunk

open Idealize.ShloMosaic

/-- The mean of a row of 1024 numbers. -/
def mean (y : Fin 1024 → EReal) : EReal :=
  Ideal.div (∑ k, y k) (Ideal.ofBits .f32 0x44800000#32)

/-- The variance of a row: the mean of the squared distances from the mean. -/
def variance (y : Fin 1024 → EReal) : EReal :=
  mean fun k => (y k - mean y) * (y k - mean y)

/-- Layer normalisation of a row with gain `g` and bias `b`. -/
def layerNorm (y g b : Fin 1024 → EReal) (c : Fin 1024) : EReal :=
  (y c - mean y) * Ideal.rsqrt (variance y + Ideal.ofBits .f32 0x3727C5AC#32) * g c + b c

/-- The residual stream is scaled by this constant (the fourth root of 8) before a sublayer is added. -/
def deep (x : EReal) : EReal := Ideal.ofBits .f32 0x3FD744FD#32 * x

/-- A row times a matrix with 1024 rows. -/
def project {n : ℕ} (x : Fin 1024 → EReal) (w : Fin 1024 → Fin n → EReal) (c : Fin n) : EReal :=
  ∑ k, x k * w k c

/-- Two products agree when row and matrix agree entry by entry. -/
theorem project_congr {n : ℕ} {x x' : Fin 1024 → EReal} {w w' : Fin 1024 → Fin n → EReal} {c : Fin n}
    (hx : ∀ k, x k = x' k) (hw : ∀ k n, w k n = w' k n) : project x w c = project x' w' c := by
  rw [funext hx, funext fun k => funext (hw k)]

/-- Scaled dot product of a query with key `l`. -/
def score (q : Fin 256 → EReal) (key : Fin 256 → Fin 256 → EReal) (l : Fin 256) : EReal :=
  (∑ d, q d * key l d) * Ideal.ofBits .f32 0x3D800000#32

/-- The largest entry of a row of 256 numbers (at least minus infinity). -/
def rowMax (s : Fin 256 → EReal) : EReal :=
  Finset.univ.fold max (Ideal.ofBits .f32 0xFF800000#32) s

/-- Softmax of a row of 256 scores, with the largest one subtracted. -/
def softmax (s : Fin 256 → EReal) (l : Fin 256) : EReal :=
  Ideal.div (Ideal.exp (s l - rowMax s)) (∑ k, Ideal.exp (s k - rowMax s))

/-- One head of attention: the values averaged with the softmax of the scores. -/
def head (q : Fin 256 → EReal) (key value : Fin 256 → Fin 256 → EReal) (d : Fin 256) : EReal :=
  ∑ l, softmax (score q key) l * value l d

/-- Column `256 h + d` of a row of 1024 numbers: entry `d` of head `h`. -/
def headCol (h : Fin 4) (d : Fin 256) : Fin 1024 := ⟨h * 256 + d, by omega⟩

/-- The four heads side by side. -/
def heads (q : Fin 1024 → EReal) (key value : Fin 4 → Fin 256 → Fin 256 → EReal) (c : Fin 1024) : EReal :=
  head (fun d => q (headCol ⟨c / 256, by omega⟩ d)) (key ⟨c / 256, by omega⟩) (value ⟨c / 256, by omega⟩)
    ⟨c % 256, Nat.mod_lt _ (by decide)⟩

/-- One row of the attention layer: the query, the four heads, the output projection, added to the
    scaled residual and normalised. -/
def attnRow (x : Fin 1024 → EReal) (wq wo : Fin 1024 → Fin 1024 → EReal)
    (key value : Fin 4 → Fin 256 → Fin 256 → EReal) (g b : Fin 1024 → EReal) : Fin 1024 → EReal :=
  layerNorm (fun c => deep (x c) + project (heads (project x wq) key value) wo c) g b

/-- Two attention rows agree when their ingredients agree entry by entry. -/
theorem attnRow_congr {x x' g g' b b' : Fin 1024 → EReal} {wq wq' wo wo' : Fin 1024 → Fin 1024 → EReal}
    {key key' value value' : Fin 4 → Fin 256 → Fin 256 → EReal} {c c' : Fin 1024}
    (hx : ∀ k, x k = x' k) (hq : ∀ k n, wq k n = wq' k n) (ho : ∀ k n, wo k n = wo' k n)
    (hk : ∀ h l d, key h l d = key' h l d) (hv : ∀ h l d, value h l d = value' h l d)
    (hg : ∀ k, g k = g' k) (hb : ∀ k, b k = b' k) (hc : c = c') :
    attnRow x wq wo key value g b c = attnRow x' wq' wo' key' value' g' b' c' := by
  rw [funext hx, funext fun k => funext (hq k), funext fun k => funext (ho k), funext hg, funext hb, hc,
    funext fun h => funext fun l => funext (hk h l), funext fun h => funext fun l => funext (hv h l)]

/-- `heads` spelt out by the head a column belongs to. -/
theorem heads_cases (q : Fin 1024 → EReal) (key value : Fin 4 → Fin 256 → Fin 256 → EReal) (h : Fin 4) (d : Fin 256) :
    heads q key value (headCol h d) = head (fun d => q (headCol h d)) (key h) (value h) d := by
  have h1 : (h.val * 256 + d.val) / 256 = h.val := by omega
  have h2 : (h.val * 256 + d.val) % 256 = d.val := by omega
  simp only [heads, headCol, h1, h2, Fin.eta]

/-- A column of 1024 lies in the head it is divided into. -/
theorem headCol_div_mod (c : Fin 1024) :
    headCol ⟨c / 256, by omega⟩ ⟨c % 256, Nat.mod_lt _ (by decide)⟩ = c :=
  Fin.ext (by simp only [headCol]; omega)

/-- The largest entry is not changed by comparing it with minus infinity again. -/
theorem max_rowMax (s : Fin 256 → EReal) :
    max (Ideal.ofBits .f32 0xFF800000#32) (rowMax s) = rowMax s := by
  refine max_eq_right ?_
  exact (Finset.le_fold_max _).2 (.inl le_rfl)

/-- A host maximum along the last of four axes, from minus infinity, at an index. -/
theorem hostMax_at {n0 n1 n2 n3 : ℕ} {u : Shape} (Y : FVec Ideal ⟨4, ![n0, n1, n2, n3]⟩ .f32)
    (h : (⟨4, ![n0, n1, n2, n3]⟩ : Shape).ReducesTo [3] ⟨3, ![n0, n1, n2]⟩) (hu : 0 < u.numel)
    (i : Fin n0) (j : Fin n1) (k : Fin n2) :
    Host.reduce (FloatOps.maximumf (F := Ideal) (φ := .f32)) Y (constant u .f32 0xFF800000#32) h hu (ix3 i j k)
      = Finset.univ.fold max (Ideal.ofBits .f32 0xFF800000#32) fun l => Y (ix4 i j k l) := by
  pointwise

/-- The gate `z / (1 + exp (-z))` of the feed-forward layer. -/
def silu (z : EReal) : EReal := z * Ideal.logistic z

/-- Hidden unit `j` of the feed-forward layer: the gate column times the matching column of the second half. -/
def hiddenUnit (x : Fin 1024 → EReal) (w : Fin 1024 → Fin 5632 → EReal) (j : Fin 2816) : EReal :=
  silu (project x w ⟨j, by omega⟩) * project x w ⟨2816 + j, by omega⟩

/-- One row of the feed-forward layer: half of its output is added to the scaled residual, then normalised. -/
def ffnRow (x : Fin 1024 → EReal) (w : Fin 1024 → Fin 5632 → EReal) (wo : Fin 2816 → Fin 1024 → EReal)
    (g b : Fin 1024 → EReal) : Fin 1024 → EReal :=
  layerNorm (fun c => deep (x c) + Ideal.ofBits .f32 0x3F000000#32 * ∑ j, hiddenUnit x w j * wo j c) g b

/-- Two feed-forward rows agree when their ingredients agree entry by entry. -/
theorem ffnRow_congr {x x' g g' b b' : Fin 1024 → EReal} {w w' : Fin 1024 → Fin 5632 → EReal}
    {wo wo' : Fin 2816 → Fin 1024 → EReal} {c c' : Fin 1024}
    (hx : ∀ k, x k = x' k) (hw : ∀ k n, w k n = w' k n) (ho : ∀ k n, wo k n = wo' k n)
    (hg : ∀ k, g k = g' k) (hb : ∀ k, b k = b' k) (hc : c = c') :
    ffnRow x w wo g b c = ffnRow x' w' wo' g' b' c' := by
  rw [funext hx, funext fun k => funext (hw k), funext fun k => funext (ho k), funext hg, funext hb, hc]

end Cert.Trunk
-- ==== Proof.AttnPure.lean ====
module

public import proofs.«01_k».proof.Proof.Gen.AttnIdeal.Value
public import proofs.«01_k».proof.Proof.TrunkSpec

@[expose] public section

set_option maxRecDepth 16384

noncomputable section

/-! The attention kernel's arithmetic on one tile of 256 rows, read at an index. -/

namespace Cert.AttnIdeal.Attn

open Cert.AttnIdeal Cert.AttnIdeal.Gen Idealize.ShloMosaic Idealize.ShloMosaic.TcCoe Idealize.SL.Sem
open Cert.Trunk

/-- The query projection of a tile is the row times the matrix. -/
theorem query_at (x : Vec Ideal S256x1024 .f32) (w : Vec Ideal S1x1024x1024 .bf16) (r : Fin 256) (c : Fin 1024) :
    k0_pay2 (F := Ideal) x w (ix2 r c) = project (fun k => x (ix2 r k)) (fun k n => w (ix3 0 k n)) c := by
  pointwise [k0_pay2, project]

/-- The attention weights of head 0, from the whole query row. -/
theorem weights0_at (q : FVec Ideal S256x1024 .f32) (K : Vec Ideal S1x1x256x256 .bf16) (r l : Fin 256) :
    k0_pay13 (F := Ideal) q K (ix2 r l)
      = softmax (score (fun d => q (ix2 r (headCol 0 d))) fun l d => K (ix4 0 0 l d)) l := by
  pointwise [k0_pay13, softmax, score, rowMax, headCol]

/-- The attention weights of head 1, from the whole query row. -/
theorem weights1_at (q : FVec Ideal S256x1024 .f32) (K : Vec Ideal S1x1x256x256 .bf16) (r l : Fin 256) :
    k0_pay17 (F := Ideal) q K (ix2 r l)
      = softmax (score (fun d => q (ix2 r (headCol 1 d))) fun l d => K (ix4 0 0 l d)) l := by
  pointwise [k0_pay17, softmax, score, rowMax, headCol]

/-- The attention weights of head 2, from the whole query row. -/
theorem weights2_at (q : FVec Ideal S256x1024 .f32) (K : Vec Ideal S1x1x256x256 .bf16) (r l : Fin 256) :
    k0_pay8 (F := Ideal) q K (ix2 r l)
      = softmax (score (fun d => q (ix2 r (headCol 2 d))) fun l d => K (ix4 0 0 l d)) l := by
  pointwise [k0_pay8, softmax, score, rowMax, headCol]

/-- The attention weights of head 3, from the whole query row. -/
theorem weights3_at (q : FVec Ideal S256x1024 .f32) (K : Vec Ideal S1x1x256x256 .bf16) (r l : Fin 256) :
    k0_pay23 (F := Ideal) q K (ix2 r l)
      = softmax (score (fun d => q (ix2 r (headCol 3 d))) fun l d => K (ix4 0 0 l d)) l := by
  pointwise [k0_pay23, softmax, score, rowMax, headCol]

/-- Weights times values. -/
theorem average_at (p : FVec Ideal S256x256 .bf16) (V : Vec Ideal S1x1x256x256 .bf16) (r d : Fin 256) :
    k0_pay9 (F := Ideal) p V (ix2 r d) = ∑ l, p (ix2 r l) * V (ix4 0 0 l d) := by
  pointwise [k0_pay9]

/-- The output projection of four heads side by side, when each head is read from a family. -/
theorem output_at (a b c d : FVec Ideal S256x256 .f32) (w : Vec Ideal S1x1024x1024 .bf16) (r : Fin 256) (n : Fin 1024)
    (o : Fin 1024 → EReal)
    (ha : ∀ j, a (ix2 r j) = o (headCol 0 j)) (hb : ∀ j, b (ix2 r j) = o (headCol 1 j))
    (hc : ∀ j, c (ix2 r j) = o (headCol 2 j)) (hd : ∀ j, d (ix2 r j) = o (headCol 3 j)) :
    k0_pay22 (F := Ideal) a b c d w (ix2 r n) = project o (fun k n => w (ix3 0 k n)) n := by
  pointwise [k0_pay22, project]
  refine Finset.sum_congr rfl fun k _ => congrArg (· * _) ?_
  split
  · rw [ha]; exact congrArg o (Fin.ext (by simp only [headCol]; simp))
  split
  · rw [hb]; exact congrArg o (Fin.ext (by simp only [headCol]; simp; omega))
  split
  · rw [hc]; exact congrArg o (Fin.ext (by simp only [headCol]; simp; omega))
  · rw [hd]; exact congrArg o (Fin.ext (by simp only [headCol]; simp; omega))

/-- The residual and the normalisation of a tile. -/
theorem norm_at (y : FVec Ideal S256x1024 .f32) (x : Vec Ideal S256x1024 .f32) (g b : Vec Ideal S1x1x1024 .f32)
    (r : Fin 256) (c : Fin 1024) :
    k0_pay49 (F := Ideal) y x g b (ix2 r c)
      = layerNorm (fun k => deep (x (ix2 r k)) + y (ix2 r k)) (fun k => g (ix3 0 0 k)) (fun k => b (ix3 0 0 k)) c := by
  pointwise [k0_pay49, layerNorm, variance, mean, deep]

/-- What the kernel computes from one tile of 256 rows `x`, the query matrix `w`, the four heads' keys and
    values, the output matrix `wo` and the normalisation's gain and bias. -/
def tile (x : Vec Ideal S256x1024 .f32) (w : Vec Ideal S1x1024x1024 .bf16)
    (K0 K1 K2 K3 V0 V1 V2 V3 : Vec Ideal S1x1x256x256 .bf16) (wo : Vec Ideal S1x1024x1024 .bf16)
    (g b : Vec Ideal S1x1x1024 .f32) : FVec Ideal S256x1024 .f32 :=
  k0_pay49 (k0_pay22 (k0_pay9 (k0_pay13 (k0_pay2 x w) K0) V0) (k0_pay9 (k0_pay17 (k0_pay2 x w) K1) V1)
    (k0_pay9 (k0_pay8 (k0_pay2 x w) K2) V2) (k0_pay9 (k0_pay23 (k0_pay2 x w) K3) V3) wo) x g b

/-- A tile at an index is the attention layer of its row. -/
theorem tile_at (x : Vec Ideal S256x1024 .f32) (w : Vec Ideal S1x1024x1024 .bf16)
    (K0 K1 K2 K3 V0 V1 V2 V3 : Vec Ideal S1x1x256x256 .bf16) (wo : Vec Ideal S1x1024x1024 .bf16)
    (g b : Vec Ideal S1x1x1024 .f32) (key value : Fin 4 → Fin 256 → Fin 256 → EReal)
    (hK0 : ∀ l d, K0 (ix4 0 0 l d) = key 0 l d) (hK1 : ∀ l d, K1 (ix4 0 0 l d) = key 1 l d)
    (hK2 : ∀ l d, K2 (ix4 0 0 l d) = key 2 l d) (hK3 : ∀ l d, K3 (ix4 0 0 l d) = key 3 l d)
    (hV0 : ∀ l d, V0 (ix4 0 0 l d) = value 0 l d) (hV1 : ∀ l d, V1 (ix4 0 0 l d) = value 1 l d)
    (hV2 : ∀ l d, V2 (ix4 0 0 l d) = value 2 l d) (hV3 : ∀ l d, V3 (ix4 0 0 l d) = value 3 l d)
    (r : Fin 256) (c : Fin 1024) :
    tile x w K0 K1 K2 K3 V0 V1 V2 V3 wo g b (ix2 r c)
      = attnRow (fun k => x (ix2 r k)) (fun k n => w (ix3 0 k n)) (fun k n => wo (ix3 0 k n)) key value
          (fun k => g (ix3 0 0 k)) (fun k => b (ix3 0 0 k)) c := by
  unfold tile attnRow
  rw [norm_at]
  refine congrArg (fun y => layerNorm y _ _ c) (funext fun n => congrArg (deep (x (ix2 r n)) + ·) ?_)
  refine output_at _ _ _ _ wo r n _ (fun j => ?_) (fun j => ?_) (fun j => ?_) (fun j => ?_) <;>
    simp only [average_at, weights0_at, weights1_at, weights2_at, weights3_at, query_at, heads_cases, head,
      hK0, hK1, hK2, hK3, hV0, hV1, hV2, hV3]

end Cert.AttnIdeal.Attn
-- ==== Proof.AttnTiles.lean ====
module

public import proofs.«01_k».proof.Proof.AttnPure
public import Idealize.ShloMosaic.Lib.Pipeline.ValueKit

@[expose] public section

set_option maxRecDepth 16384

noncomputable section

/-! The four tiles of 256 rows that one grid point of the attention kernel stores. -/

namespace Cert.AttnIdeal.Attn

open Cert.AttnIdeal Cert.AttnIdeal.Gen Idealize.ShloMosaic Idealize.ShloMosaic.TcCoe Idealize.SL.Sem
open Cert.Trunk

variable (x : Vec Ideal S256x1024 .f32) (w : Vec Ideal S1x1024x1024 .bf16)
    (K0 K1 K2 K3 V0 V1 V2 V3 : Vec Ideal S1x1x256x256 .bf16) (wo : Vec Ideal S1x1024x1024 .bf16)
    (g b : Vec Ideal S1x1x1024 .f32)

/-- The first tile's steps are those of `tile`. -/
theorem first_tile :
    k0_pay49 (k0_pay22 (k0_pay9 (k0_pay3 x w K0) V0) (k0_pay12 (k0_pay7 (k0_pay5 x w) (k0_pay6 K1) (constant S256x256 .f32 0x00000000#32)) V1) (k0_pay14 (k0_pay8 (k0_pay2 x w) K2) V2) (k0_pay18 (k0_pay11 (k0_pay10 (k0_pay2 x w) K3) (Scalar.ofBits .f32 0x3D800000#32)) V3) wo) x g b
      = tile x w K0 K1 K2 K3 V0 V1 V2 V3 wo g b := rfl

/-- The second tile's steps are those of `tile`. -/
theorem second_tile :
    k0_pay50 (k0_pay33 (k0_pay21 (k0_pay13 (k0_pay4 x w) K0) V0) (k0_pay23 (k0_pay4 x w) K3) (k0_pay24 (k0_pay17 (k0_pay4 x w) K1) V1) (k0_pay27 (k0_pay20 (k0_pay19 (k0_pay4 x w) K2)) V2) V3 wo) x g b
      = tile x w K0 K1 K2 K3 V0 V1 V2 V3 wo g b := rfl

/-- The third tile's steps are those of `tile`. -/
theorem third_tile (q : FVec Ideal S256x1024 .f32) (hq : q = k0_pay16 (k0_pay15 x) w) :
    k0_pay52 (k0_pay51 (k0_pay44 (k0_pay32 (k0_pay26 (k0_pay25 q) K0) V0) (k0_pay36 (k0_pay30 (k0_pay29 q K1)) V1) (k0_pay39 (k0_pay31 q K2) (k0_pay38 V2) (constant S256x256 .f32 0x00000000#32)) (k0_pay41 (k0_pay35 (k0_pay34 q) K3) V3) wo) x) g b
      = tile x w K0 K1 K2 K3 V0 V1 V2 V3 wo g b := by subst hq; rfl

/-- The fourth tile's steps are those of `tile`. -/
theorem fourth_tile (o q : FVec Ideal S256x1024 .f32) (hq : q = k0_pay28 x w)
    (ho : o = k0_pay48 (k0_pay43 (k0_pay37 q K0) V0) (k0_pay45 q K3) (k0_pay46 (k0_pay40 q K1) V1) (k0_pay47 (k0_pay42 q K2) V2) V3 wo) :
    k0_pay1 (k0_pay53 o x) (k0_pay54 g) (k0_pay55 b) (k0_pay56 o x)
      = tile x w K0 K1 K2 K3 V0 V1 V2 V3 wo g b := by subst ho hq; rfl

end Cert.AttnIdeal.Attn
-- ==== Proof.AttnValue.lean ====
module

public import proofs.«01_k».proof.Proof.AttnTiles
public import proofs.«01_k».proof.Proof.Gen.AttnRefIdeal.Read
public import Idealize.ShloMosaic.Lib.Claim

@[expose] public section

set_option maxRecDepth 16384

noncomputable section

/-! The attention kernel's result array, row by row. -/

namespace Cert.AttnIdeal.Attn

open Cert.AttnIdeal Cert.AttnIdeal.Gen Idealize.ShloMosaic Idealize.ShloMosaic.TcCoe Idealize.SL.Sem
open Idealize.ShloMosaic.Pipeline (Dat)
open Cert.Trunk

/-- The keys of head `h` in a block of keys and values side by side. -/
def keys (kv : Vec Ideal S1x1x256x2048 .bf16) (h : Fin 4) (l d : Fin 256) : EReal :=
  kv (ix4 0 0 l ⟨h * 256 + d, by omega⟩)

/-- The values of head `h` in a block of keys and values side by side. -/
def vals (kv : Vec Ideal S1x1x256x2048 .bf16) (h : Fin 4) (l d : Fin 256) : EReal :=
  kv (ix4 0 0 l ⟨1024 + (h * 256 + d), by omega⟩)

/-- What a grid point stores, at an index of the block: the attention layer of that row of its input block. -/
theorem out_at (x0 : Vec Ideal S1024x1024 .f32) (x1 : Vec Ideal S1x1024x1024 .bf16) (x2 : Vec Ideal S1x1x256x2048 .bf16)
    (x3 : Vec Ideal S1x1024x1024 .bf16) (x4 x5 : Vec Ideal S1x1x1024 .f32) (y : S1024x1024.Idx) :
    out0_6 (F := Ideal) x0 x1 x2 x3 x4 x5 y
      = attnRow (fun k => x0 (ix2 (y 0) k)) (fun k n => x1 (ix3 0 k n)) (fun k n => x3 (ix3 0 k n)) (keys x2) (vals x2)
          (fun k => x4 (ix3 0 0 k)) (fun k => x5 (ix3 0 0 k)) (y 1) := by
  unfold_out out0_6
  canon_tiles x h
  all_goals
    idx_vars x
    first
    | rw [fourth_tile _ _ _ _ _ _ _ _ _ _ _ _ _ _ _ rfl rfl]
    | rw [third_tile _ _ _ _ _ _ _ _ _ _ _ _ _ _ rfl]
    | rw [second_tile]
    | rw [first_tile]
    refine (tile_at _ _ _ _ _ _ _ _ _ _ _ _ _ (keys x2) (vals x2) ?_ ?_ ?_ ?_ ?_ ?_ ?_ ?_ _ _).trans
      (attnRow_congr ?_ ?_ ?_ (fun _ _ _ => rfl) (fun _ _ _ => rfl) ?_ ?_ ?_)
  all_goals first
    | (intro a b; pointwise [keys, vals]; done)
    | (intro a b; pointwise [keys, vals]; blk_ext; done)
    | (intro a; pointwise; done)
    | (intro a; pointwise; blk_ext; done)
    | exact Fin.ext h1.symm

variable (m : (ℓ : Loc nD τ sig) → Buf (Elt Ideal) ℓ)

/-- The attention layer over whole arrays: row `r` of the flattened result belongs to sequence `r / 16384`, whose
    keys and values are read from slice 3 (the layer) of the stacked array. -/
def layer (X : Vec Ideal S2x16384x1024 .f32) (WQ : Vec Ideal S4x1024x1024 .f32) (KV : Vec Ideal S4x2x256x2048 .bf16)
    (WO : Vec Ideal S4x1024x1024 .f32) (G B : Vec Ideal S4x4x1024 .f32) : Vec Ideal S32768x1024 .f32 := fun j =>
  attnRow (fun k => X (ix3 ⟨(j 0).val / 16384, by have := (j 0).isLt; change _ < 32768 at this; omega⟩ ⟨(j 0).val % 16384, by omega⟩ k))
    (fun k n => WQ (ix3 3 k n)) (fun k n => WO (ix3 3 k n))
    (fun h l d => KV (ix4 3 ⟨(j 0).val / 16384, by have := (j 0).isLt; change _ < 32768 at this; omega⟩ l ⟨h * 256 + d, by omega⟩))
    (fun h l d => KV (ix4 3 ⟨(j 0).val / 16384, by have := (j 0).isLt; change _ < 32768 at this; omega⟩ l ⟨1024 + (h * 256 + d), by omega⟩))
    (fun k => G (ix3 3 2 k)) (fun k => B (ix3 3 2 k)) (j 1)

/-- The blocks a grid point reads and writes: row block `t` of the input and the result, the layer's weights, the
    keys and values of sequence `t / 16`. -/
theorem idx : ∀ t : Fin cfg0.N, win0_0.index t = ![t.val, 0] ∧ win0_1.index t = ![3, 0, 0]
    ∧ win0_2.index t = ![3, t.val / 16, 0, 0] ∧ win0_3.index t = ![3, 0, 0] ∧ win0_4.index t = ![14, 0, 0]
    ∧ win0_5.index t = ![14, 0, 0] ∧ win0_6.index t = ![t.val, 0] :=
  (by decide +kernel : ∀ t : Fin grid0.N, _)

set_option maxHeartbeats 2000000 in
/-- The kernel's result array is the attention layer of its arguments. -/
theorem final (c : Dev nD) :
    (dats m 0 c).arrAt 6 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 32 := lt_of_lt_of_eq t.isLt N_0
  blk_simp
  rw [after0_6]
  refine (out_at _ _ _ _ _ _ y).trans (attnRow_congr ?_ ?_ ?_ ?_ ?_ ?_ ?_ ?_)
  · intro k; blk_simp [iblk]; entry_read; pointwise; blk_ext [idx t]
  · intro k n; blk_simp [iblk]; entry_read; pointwise; blk_ext [idx t]
  · intro k n; blk_simp [iblk]; entry_read; pointwise; blk_ext [idx t]
  · intro h l d; unfold keys; blk_ext [iblk, V_main_arg2, idx t]
  · intro h l d; unfold vals; blk_ext [iblk, V_main_arg2, idx t]
  · intro k; blk_simp [iblk]; entry_read; pointwise; blk_ext [idx t]
  · intro k; blk_simp [iblk]; entry_read; pointwise; blk_ext [idx t]
  · exact Fin.ext (by blk_simp [idx t])

end Cert.AttnIdeal.Attn
-- ==== Proof.AttnRefValue.lean ====
module

public import proofs.«01_k».proof.Proof.TrunkSpec
public import proofs.«01_k».proof.Proof.Gen.AttnRefIdeal.Read

@[expose] public section

set_option maxRecDepth 16384

noncomputable section

/-! The attention layer's reference, row by row. -/

namespace Cert.AttnRefIdeal.Attn

open Cert.AttnRefIdeal Cert.AttnRefIdeal.Gen Cert.AttnRefIdeal.Read
open Idealize.ShloMosaic Idealize.ShloMosaic.TcCoe Idealize.SL.Sem
open Cert.Trunk

variable (X : (⟨S2x16384x1024, .f32⟩ : BufTy).Contents (Elt Ideal)) (WQ : (⟨S4x1024x1024, .f32⟩ : BufTy).Contents (Elt Ideal))
    (KV : (⟨S4x2x256x2048, .bf16⟩ : BufTy).Contents (Elt Ideal)) (WO : (⟨S4x1024x1024, .f32⟩ : BufTy).Contents (Elt Ideal))
    (G B : (⟨S4x4x1024, .f32⟩ : BufTy).Contents (Elt Ideal))

/-- The scaled scores of position `s` of sequence `b` against memory position `l`, in head `h`. -/
theorem scores_at (b : Fin 2) (h : Fin 4) (s : Fin 16384) (l : Fin 256) :
    val_main_v13 (F := Ideal) X WQ KV (ix4 b h s l)
      = score (fun d => project (fun k => X (ix3 b s k)) (fun k n => WQ (ix3 3 k n)) (headCol h d))
          (fun l d => KV (ix4 3 b l ⟨h * 256 + d, by omega⟩)) l := by
  pointwise [val_main_v13, val_main_v12, val_main_v11, val_main_v9, val_main_v7, val_main_v6, val_main_v5, val_main_v4,
    val_main_v3, val_main_v2, val_main_v1, val_main_v0, val_main_cst, score, project, headCol]

/-- The maximum the softmax starts from. -/
theorem reduced_max_at (b : Fin 2) (h : Fin 4) (s : Fin 16384) :
    val_main_v14 (F := Ideal) X WQ KV (ix3 b h s)
      = rowMax fun l => val_main_v13 (F := Ideal) X WQ KV (ix4 b h s l) := by
  unfold val_main_v14
  generalize val_main_v13 (F := Ideal) X WQ KV = Y
  exact hostMax_at Y _ _ b h s

/-- The largest score. -/
theorem max_at (b : Fin 2) (h : Fin 4) (s : Fin 16384) :
    val_main_v16 (F := Ideal) X WQ KV (ix3 b h s)
      = rowMax fun l => val_main_v13 (F := Ideal) X WQ KV (ix4 b h s l) := by
  rw [val_main_v16_apply, val_main_v15_apply, reduced_max_at]
  exact max_rowMax _

/-- The attention weights. -/
theorem weights_at (b : Fin 2) (h : Fin 4) (s : Fin 16384) (l : Fin 256) :
    val_main_v24 (F := Ideal) X WQ KV (ix4 b h s l)
      = softmax (fun l => val_main_v13 (F := Ideal) X WQ KV (ix4 b h s l)) l := by
  pointwise [val_main_v24, val_main_v23, val_main_v22, val_main_v21, val_main_v20, val_main_v19, val_main_v18, val_main_v17,
    val_main_cst_2, max_at, softmax]

/-- The heads side by side. -/
theorem heads_at (b : Fin 2) (s : Fin 16384) (c : Fin 1024) :
    val_main_v27 (F := Ideal) X WQ KV (ix3 b s c)
      = heads (project (fun k => X (ix3 b s k)) (fun k n => WQ (ix3 3 k n)))
          (fun h l d => KV (ix4 3 b l ⟨h * 256 + d, by omega⟩))
          (fun h l d => KV (ix4 3 b l ⟨1024 + (h * 256 + d), by omega⟩)) c := by
  pointwise [val_main_v27, val_main_v26, val_main_v25, weights_at, scores_at, heads, head,
    val_main_v10, val_main_v8, val_main_v6, val_main_v5, val_main_v4]
  have e : (c : ℕ) / 256 * 256 + c % 256 = c := by omega
  refine Finset.sum_congr rfl fun l _ => ?_
  rw [mul_comm]
  simp only [e]

/-- The residual stream after the attention, before the normalisation. -/
theorem sum_at (b : Fin 2) (s : Fin 16384) (c : Fin 1024) :
    val_main_v33 (F := Ideal) X WQ KV WO (ix3 b s c)
      = deep (X (ix3 b s c)) + project (fun k => val_main_v27 (F := Ideal) X WQ KV (ix3 b s k)) (fun k n => WO (ix3 3 k n)) c := by
  pointwise [val_main_v33, val_main_v32, val_main_v31, val_main_v30, val_main_v29, val_main_v28, val_main_cst_3, deep, project]

/-- The normalised result. -/
theorem result_at (r : Fin 32768) (c : Fin 1024) :
    val_main_v62 (F := Ideal) X WQ KV WO G B (ix2 r c)
      = layerNorm (fun k => val_main_v33 (F := Ideal) X WQ KV WO (ix3 ⟨r / 16384, by omega⟩ ⟨r % 16384, by omega⟩ k))
          (fun k => G (ix3 3 2 k)) (fun k => B (ix3 3 2 k)) c := by
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_v44, val_main_v43, val_main_v42, val_main_v41, val_main_v40, val_main_v39,
    val_main_v38, val_main_v37, val_main_v36, val_main_v35, val_main_v34, val_main_cst_4, val_main_cst_5, val_main_cst_6,
    val_main_cst_7, val_main_cst_8, layerNorm, variance, mean]

/-- The reference's result at an index is the attention layer of its row. -/
theorem layer_at (r : Fin 32768) (c : Fin 1024) :
    val_main_v62 (F := Ideal) X WQ KV WO G B (ix2 r c)
      = attnRow (fun k => X (ix3 ⟨r / 16384, by omega⟩ ⟨r % 16384, by omega⟩ k))
          (fun k n => WQ (ix3 3 k n)) (fun k n => WO (ix3 3 k n))
          (fun h l d => KV (ix4 3 ⟨r / 16384, by omega⟩ l ⟨h * 256 + d, by omega⟩))
          (fun h l d => KV (ix4 3 ⟨r / 16384, by omega⟩ l ⟨1024 + (h * 256 + d), by omega⟩))
          (fun k => G (ix3 3 2 k)) (fun k => B (ix3 3 2 k)) c := by
  rw [result_at]
  simp only [sum_at, heads_at, attnRow]

end Cert.AttnRefIdeal.Attn
-- ==== Proof.AttnClaim.lean ====
module

public import proofs.«01_k».proof.Defs
public import proofs.«01_k».proof.Proof.Gen.Attn
public import proofs.«01_k».proof.Proof.Gen.Attn.Frame
public import proofs.«01_k».proof.Proof.Gen.AttnIdeal.Value
public import proofs.«01_k».proof.Proof.AttnValue
public import proofs.«01_k».proof.Proof.AttnRefValue
public import Idealize.ShloMosaic.Lib.Claim

@[expose] public section

set_option maxRecDepth 16384

noncomputable section

/-! The claims about the attention layer. -/

namespace Cert.Proof

open Idealize.ShloMosaic Idealize.SL.Sem

/-- The printed kernel runs, leaves its arguments alone and ends with every semaphore at zero. -/
theorem frame_Attn : Cert.quiescent_Attn := fun m g _ => Cert.Attn.Gen.frame m g

/-- So does the kernel with exact operations. -/
theorem frame_AttnIdeal : Cert.quiescent_AttnIdeal := fun m g _ => Cert.AttnIdeal.Gen.frame m g

/-- So does the reference, a program with no semaphores. -/
theorem frame_AttnRefIdeal : Cert.quiescent_AttnRefIdeal := fun m g _ =>
  (θ_run _ _ _).mono (fun _ h => ⟨fun c => (h c).2, sem_eq_zero_of_no_sems rfl _⟩) (Cert.AttnRefIdeal.Value.run m g)

/-- The two kernels are one text. -/
theorem preserves_Attn : Cert.preserves_Attn_AttnIdeal := trivial

/-- Kernel and reference compute the same array. -/
theorem algebraic_Attn : Cert.algebraic_AttnIdeal_AttnRefIdeal := by
  pair_intro
  · run_from Cert.AttnIdeal.Gen.run_main m g
  · run_from Cert.AttnRefIdeal.Value.run m' g'
    rw [Cert.AttnRefIdeal.Read.val_main_v62_eq]
    refine Eq.trans ?_ (Cert.AttnIdeal.Attn.final m c).symm
    refine funext fun j => ?_
    obtain ⟨r, n, rfl⟩ : ∃ (r : Fin 32768) (n : Fin 1024), j = ix2 r n :=
      ⟨j 0, j 1, by ext a; match a with | 0 => rfl | 1 => rfl⟩
    obtain ⟨e0, e1, e2, e3, e4, e5⟩ := hagree c
    refine (Cert.AttnRefIdeal.Attn.layer_at _ _ _ _ _ _ r n).trans ?_
    rw [e0, e1, e2, e3, e4, e5]
    rfl

end Cert.Proof
-- ==== Proof.FfnPure.lean ====
module

public import proofs.«01_k».proof.Proof.Gen.FfnIdeal.Value
public import proofs.«01_k».proof.Proof.TrunkSpec

@[expose] public section

set_option maxRecDepth 16384

noncomputable section

/-! The feed-forward kernel's arithmetic on one tile of 256 rows, read at an index. -/

namespace Cert.FfnIdeal.Ffn

open Cert.FfnIdeal Cert.FfnIdeal.Gen Idealize.ShloMosaic Idealize.ShloMosaic.TcCoe Idealize.SL.Sem
open Cert.Trunk

/-- 256 hidden units of a tile of 256 rows, from the matching columns of the gate's and the second half's matrix. -/
def chunk (x : Vec Ideal S256x1024 .f32) (wg wu : Vec Ideal S1x1024x256 .bf16) : FVec Ideal S256x256 .bf16 :=
  k0_pay3 x wg wu

/-- A chunk at an index. -/
theorem chunk_at (x : Vec Ideal S256x1024 .f32) (wg wu : Vec Ideal S1x1024x256 .bf16) (r j : Fin 256) :
    chunk x wg wu (ix2 r j)
      = silu (project (fun k => x (ix2 r k)) (fun k n => wg (ix3 0 k n)) j)
          * project (fun k => x (ix2 r k)) (fun k n => wu (ix3 0 k n)) j := by
  pointwise [chunk, k0_pay3, k0_pay2, silu, project]

/-- What the kernel computes from the hidden units of a tile, the output matrix, the tile itself and the
    normalisation's gain and bias. -/
def tile (h : Vec Ideal S256x2816 .bf16) (wo : Vec Ideal S1x2816x1024 .bf16) (x : Vec Ideal S256x1024 .f32)
    (g b : Vec Ideal S1x1x1024 .f32) : FVec Ideal S256x1024 .f32 :=
  k0_pay79 (k0_pay75 (k0_pay18 h wo) x) (k0_pay76 g) (k0_pay77 b) (k0_pay78 (k0_pay18 h wo) x)

/-- The residual and the normalisation of a tile. -/
theorem norm_at (y : FVec Ideal S256x1024 .f32) (x : Vec Ideal S256x1024 .f32) (g b : Vec Ideal S1x1x1024 .f32)
    (r : Fin 256) (c : Fin 1024) :
    k0_pay79 (F := Ideal) (k0_pay75 y x) (k0_pay76 g) (k0_pay77 b) (k0_pay78 y x) (ix2 r c)
      = layerNorm (fun k => deep (x (ix2 r k)) + Ideal.ofBits .f32 0x3F000000#32 * y (ix2 r k))
          (fun k => g (ix3 0 0 k)) (fun k => b (ix3 0 0 k)) c := by
  pointwise [k0_pay79, k0_pay78, k0_pay77, k0_pay76, k0_pay75, layerNorm, variance, mean, deep]

/-- The output matrix applied to the hidden units. -/
theorem down_at (h : Vec Ideal S256x2816 .bf16) (wo : Vec Ideal S1x2816x1024 .bf16) (r : Fin 256) (c : Fin 1024) :
    k0_pay18 (F := Ideal) h wo (ix2 r c) = ∑ j, h (ix2 r j) * wo (ix3 0 j c) := by
  pointwise [k0_pay18]

/-- A tile at an index is the feed-forward layer of its row, when the hidden units are those of the row. -/
theorem tile_at (h : Vec Ideal S256x2816 .bf16) (wo : Vec Ideal S1x2816x1024 .bf16) (x : Vec Ideal S256x1024 .f32)
    (g b : Vec Ideal S1x1x1024 .f32) (w : Fin 1024 → Fin 5632 → EReal) (r : Fin 256) (c : Fin 1024)
    (hh : ∀ j, h (ix2 r j) = hiddenUnit (fun k => x (ix2 r k)) w j) :
    tile h wo x g b (ix2 r c)
      = ffnRow (fun k => x (ix2 r k)) w (fun j n => wo (ix3 0 j n)) (fun k => g (ix3 0 0 k)) (fun k => b (ix3 0 0 k)) c := by
  unfold tile ffnRow
  rw [norm_at]
  simp only [down_at, hh]

end Cert.FfnIdeal.Ffn
-- ==== Proof.FfnTiles.lean ====
module

public import proofs.«01_k».proof.Proof.FfnPure
public import Idealize.ShloMosaic.Lib.Pipeline.ValueKit
public import Idealize.ShloMosaic.Lib.Pipeline.ReadBack

@[expose] public section

set_option maxRecDepth 16384

noncomputable section

/-! One grid point of the feed-forward kernel: the scratch array of hidden units that its chunks fill, and the four
tiles of 256 rows that it stores. -/

namespace Cert.FfnIdeal.Ffn

open Cert.FfnIdeal Cert.FfnIdeal.Gen Idealize.ShloMosaic Idealize.ShloMosaic.TcCoe Idealize.SL.Sem
open Idealize.ShloMosaic.Pipeline (Dat)
open Cert.Trunk

section tiles

variable (h : Vec Ideal S256x2816 .bf16) (wo : Vec Ideal S1x2816x1024 .bf16) (x : Vec Ideal S256x1024 .f32)
    (g b : Vec Ideal S1x1x1024 .f32)

/-- The second tile's steps are those of `tile`. -/
theorem second_tile :
    k0_pay84 (k0_pay80 g) (k0_pay81 b) (k0_pay82 (k0_pay40 h wo) x) (k0_pay83 (k0_pay40 h wo) x) = tile h wo x g b := rfl

/-- The third tile's steps are those of `tile`. -/
theorem third_tile : k0_pay88 (k0_pay85 b) (k0_pay86 (k0_pay57 h wo) x) (k0_pay87 g) = tile h wo x g b := rfl

/-- The fourth tile's steps are those of `tile`. -/
theorem fourth_tile :
    k0_pay1 (k0_pay89 g) (k0_pay90 b) (k0_pay91 (k0_pay74 h wo) x) (k0_pay92 (k0_pay74 h wo) x) = tile h wo x g b := rfl

end tiles

variable (x0 : Vec Ideal S1024x1024 .f32) (x1 : Vec Ideal S1x1024x5632 .bf16)

/-- A load of the rows `o ..` of a block, at an index, is the block at that row. -/
theorem load_rows (o : ℕ) (h : ∀ a, (![o, 0] : Fin 2 → ℕ) a + (![256, 1024] : Fin 2 → ℕ) a ≤ S1024x1024.size a)
    (r : Fin 256) (k : Fin 1024) (i : Fin 1024) (hi : i.val = o + r) :
    View.ld x0 (Rect.unit ![o, 0] ![256, 1024] h) (ix2 r k) = x0 (ix2 i k) :=
  View.ld_unit_apply_of _ _ _ _ _ _ (Fin.forall_fin_two.2 ⟨by simp [hi], by simp⟩)

/-- The hidden units of a block of 1024 rows: what the scratch array holds once every chunk is stored. -/
def units : Vec Ideal S1024x2816 .bf16 := fun y =>
  hiddenUnit (fun k => x0 (ix2 (y 0) k)) (fun k n => x1 (ix3 0 k n)) (y 1)

/-- A chunk of 256 rows and 256 columns, computed from the rows `o ..` of the block and the columns `l ..` and
    `2816 + l ..` of the matrix, is that part of the hidden units. -/
theorem chunk_units (o l : ℕ) (hb : ∀ a, (![o, l] : Fin 2 → ℕ) a + (![256, 256] : Fin 2 → ℕ) a ≤ S1024x2816.size a)
    (h0 : ∀ a, (![o, 0] : Fin 2 → ℕ) a + (![256, 1024] : Fin 2 → ℕ) a ≤ S1024x1024.size a)
    (h1 : ∀ a, (![0, 0, l] : Fin 3 → ℕ) a + (![1, 1024, 256] : Fin 3 → ℕ) a ≤ S1x1024x5632.size a)
    (h2 : ∀ a, (![0, 0, 2816 + l] : Fin 3 → ℕ) a + (![1, 1024, 256] : Fin 3 → ℕ) a ≤ S1x1024x5632.size a)
    (p : FVec Ideal S256x256 .bf16)
    (hp : p = chunk (View.ld x0 (Rect.unit ![o, 0] ![256, 1024] h0)) (View.ld x1 (Rect.unit ![0, 0, l] ![1, 1024, 256] h1))
      (View.ld x1 (Rect.unit ![0, 0, 2816 + l] ![1, 1024, 256] h2)))
    (x : S256x256.Idx) :
    p x = units x0 x1 ((Rect.unit (s := S1024x2816) ![o, l] ![256, 256] hb).emb x) := by
  subst hp
  obtain ⟨r, j, rfl⟩ : ∃ (r : Fin 256) (j : Fin 256), x = ix2 r j := ⟨x 0, x 1, by ext a; match a with | 0 => rfl | 1 => rfl⟩
  rw [chunk_at]
  unfold units hiddenUnit project
  have hx : ∀ k, View.ld x0 (Rect.unit ![o, 0] ![256, 1024] h0) (ix2 r k)
      = x0 (ix2 ((Rect.unit (s := S1024x2816) ![o, l] ![256, 256] hb).emb (ix2 r j) 0) k) := fun k =>
    load_rows x0 o h0 r k _ (by simp)
  have hw : ∀ (n : ℕ) (hn) (k : Fin 1024) (i : Fin 5632), i.val = n + j →
      View.ld x1 (Rect.unit ![0, 0, n] ![1, 1024, 256] hn) (ix3 0 k j) = x1 (ix3 0 k i) := fun n hn k i hi =>
    View.ld_unit_apply_of _ _ _ _ _ _ (by simp [Fin.forall_fin_succ, hi])
  congr 1
  · refine congrArg silu (Finset.sum_congr rfl fun k _ => congrArg₂ (· * ·) (hx k) (hw l h1 k _ ?_))
    simp
  · refine Finset.sum_congr rfl fun k _ => congrArg₂ (· * ·) (hx k) (hw _ h2 k _ ?_)
    simp; omega

/-- The stores of the list hold, between them, all eleven chunks of the rows `o ..`. -/
def coversRows (o : ℕ) (L : List (View.Piece (Elt Ideal) S1024x2816 .bf16)) : Bool :=
  (List.range 11).all fun c => L.any fun p =>
    p.1.off 0 == o && p.1.off 1 == 256 * c && p.1.size 0 == 256 && p.1.size 1 == 256 && p.1.stride 0 == 1 && p.1.stride 1 == 1

/-- So they hold every index of those rows. -/
theorem covered (o : ℕ) (L : List (View.Piece (Elt Ideal) S1024x2816 .bf16)) (h : coversRows o L = true) (y : S1024x2816.Idx)
    (h0 : o ≤ (y 0).val ∧ (y 0).val < o + 256) : ∃ p ∈ L, y ∈ p.1.set := by
  have hy : (y 1).val < 2816 := (y 1).isLt
  have hc := List.all_eq_true.1 h ((y 1).val / 256) (List.mem_range.2 (by omega))
  obtain ⟨p, hp, hq⟩ := List.any_eq_true.1 hc
  simp only [Bool.and_eq_true, beq_iff_eq] at hq
  obtain ⟨⟨⟨⟨⟨a, b⟩, c⟩, d⟩, e⟩, f⟩ := hq
  refine ⟨p, hp, p.1.toLoadRect.mem_set.2 (Fin.forall_fin_two.2 ⟨⟨(y 0).val - o, ?_, ?_⟩, ⟨(y 1).val % 256, ?_, ?_⟩⟩)⟩
  · rw [c]; omega
  · rw [a, e]; omega
  · rw [d]; omega
  · rw [b, f]; omega

/-- A load of 256 rows of the scratch array, after stores that are parts of the hidden units and hold those rows,
    reads the hidden units. -/
theorem load_units (v : View sig .tc .vmem S1024x2816 .bf16) (o : ℕ)
    (hb : ∀ a, (![o, 0] : Fin 2 → ℕ) a + (![256, 2816] : Fin 2 → ℕ) a ≤ S1024x2816.size a)
    (L : List (View.Piece (Elt Ideal) S1024x2816 .bf16)) (hL : View.PiecesOf (units x0 x1) L) (hc : coversRows o L = true)
    (r : Fin 256) (j : Fin 2816) :
    v.readCov L (Rect.unit (s := S1024x2816) ![o, 0] ![256, 2816] hb).toLoadRect (ix2 r j)
      = hiddenUnit (fun k => x0 (ix2 ⟨o + r, by have := hb 0; simp at this; omega⟩ k)) (fun k n => x1 (ix3 0 k n)) j := by
  rw [View.readCov_eq_canon']
  have h := View.canon_append_of_piecesOf (units x0 x1) [] L hL
    ((Rect.unit (s := S1024x2816) ![o, 0] ![256, 2816] hb).toLoadRect.idx (ix2 r j))
    (covered o L hc _ (by simp))
  rw [List.append_nil] at h
  refine h.trans ?_
  unfold units
  refine congr (congr (congrArg _ (funext fun k => ?_)) rfl) ?_
  · exact congrArg (fun i => x0 (ix2 i k)) (Fin.ext (by simp))
  · exact Fin.ext (by simp)

end Cert.FfnIdeal.Ffn
-- ==== Proof.FfnValue.lean ====
module

public import proofs.«01_k».proof.Proof.FfnTiles
public import proofs.«01_k».proof.Proof.Gen.FfnIdeal.Value
public import proofs.«01_k».proof.Proof.Gen.FfnRefIdeal.Read
public import Idealize.ShloMosaic.Lib.Claim
public import Idealize.ShloMosaic.Lib.Pipeline.ValueKit
public import Idealize.ShloMosaic.Lib.Pipeline.ReadBack

@[expose] public section

set_option maxRecDepth 16384

noncomputable section

/-! The feed-forward kernel's result array, row by row. -/

namespace Cert.FfnIdeal.Ffn

open Cert.FfnIdeal Cert.FfnIdeal.Gen Idealize.ShloMosaic Idealize.ShloMosaic.TcCoe Idealize.SL.Sem
open Idealize.ShloMosaic.Pipeline (Dat)
open Cert.Trunk

variable (m : (ℓ : Loc nD τ sig) → Buf (Elt Ideal) ℓ)

set_option maxHeartbeats 4000000 in
/-- What a grid point stores, at an index of the block: the feed-forward layer of that row of its input block. -/
theorem out_at (c : Dev nD) (t : Fin cfg0.N) (x0 : Vec Ideal S1024x1024 .f32) (x1 : Vec Ideal S1x1024x5632 .bf16)
    (x2 : Vec Ideal S1x2816x1024 .bf16) (x3 x4 : Vec Ideal S1x1x1024 .f32)
    (h0 : iblk m c 0 t = x0) (h1 : iblk m c 1 t = x1) (h2 : iblk m c 2 t = x2) (h3 : iblk m c 3 t = x3)
    (h4 : iblk m c 4 t = x4) (y : S1024x1024.Idx) :
    outsAt0 m c t y
      = ffnRow (fun k => x0 (ix2 (y 0) k)) (fun k n => x1 (ix3 0 k n)) (fun j n => x2 (ix3 0 j n))
          (fun k => x3 (ix3 0 0 k)) (fun k => x4 (ix3 0 0 k)) (y 1) := by
  unfold outsAt0
  frame_open
  simp (disch := decide) only [↓ View.readCov_skip, ↓ View.readCov_cons_toLoadRect, ↓ View.readCov_fill]
  frame_out
  rw [h0, h1, h2, h3, h4]
  canon_tiles x h
  all_goals
    obtain ⟨r, n, rfl⟩ : ∃ (r : Fin 256) (n : Fin 1024), x = ix2 r n := ⟨x 0, x 1, by ext a; match a with | 0 => rfl | 1 => rfl⟩
    first
    | rw [fourth_tile]
    | rw [third_tile]
    | rw [second_tile]
    | skip
    refine (tile_at _ _ _ _ _ (fun k n => x1 (ix3 0 k n)) r n fun j => ?_).trans (ffnRow_congr ?_ (fun _ _ => rfl) (fun _ _ => rfl) (fun _ => rfl) (fun _ => rfl) ?_)
    · refine (load_units x0 x1 _ _ _ _ ?_ (by rfl) r j).trans ?_
      · repeat' first
          | exact trivial
          | refine And.intro (chunk_units x0 x1 _ _ (by decide) (by decide) (by decide) (by decide) _ rfl) ?_
      · refine congrArg (fun f => hiddenUnit f _ j) (funext fun k => ?_)
        exact (load_rows x0 _ _ r k _ rfl).symm
    · intro k; exact load_rows x0 _ _ r k _ (by simpa using h0)
    · exact Fin.ext h1.symm
/-- The feed-forward layer over whole arrays: row `r` of the flattened result is position `r % 16384` of sequence
    `r / 16384`; the weights are slice 3 of the stacked arrays, the normalisation entry 3 of slice 3. -/
def layer (X : Vec Ideal S2x16384x1024 .f32) (W : Vec Ideal S4x1024x5632 .f32) (WO : Vec Ideal S4x2816x1024 .f32)
    (G B : Vec Ideal S4x4x1024 .f32) : Vec Ideal S32768x1024 .f32 := fun j =>
  ffnRow (fun k => X (ix3 ⟨(j 0).val / 16384, by have := (j 0).isLt; change _ < 32768 at this; omega⟩ ⟨(j 0).val % 16384, by omega⟩ k))
    (fun k n => W (ix3 3 k n)) (fun k n => WO (ix3 3 k n)) (fun k => G (ix3 3 3 k)) (fun k => B (ix3 3 3 k)) (j 1)

/-- The blocks a grid point reads and writes: row block `t` of the input and the result, and the layer's weights. -/
theorem idx : ∀ t : Fin cfg0.N, win0_0.index t = ![t.val, 0] ∧ win0_1.index t = ![3, 0, 0]
    ∧ win0_2.index t = ![3, 0, 0] ∧ win0_3.index t = ![15, 0, 0] ∧ win0_4.index t = ![15, 0, 0]
    ∧ win0_5.index t = ![t.val, 0] :=
  (by decide +kernel : ∀ t : Fin grid0.N, _)

set_option maxHeartbeats 2000000 in
/-- The kernel's result array is the feed-forward layer of its arguments. -/
theorem final (c : Dev nD) :
    (dats m 0 c).arrAt 5 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  have ht : t.val < 32 := lt_of_lt_of_eq t.isLt N_0
  blk_simp
  rw [after0_5]
  refine (out_at m c t _ _ _ _ _ rfl rfl rfl rfl rfl y).trans (ffnRow_congr ?_ ?_ ?_ ?_ ?_ ?_)
  · intro k; blk_simp [iblk]; entry_read; pointwise; blk_ext [idx t]
  · intro k n; blk_simp [iblk]; entry_read; pointwise; blk_ext [idx t]
  · intro k n; blk_simp [iblk]; entry_read; pointwise; blk_ext [idx t]
  · intro k; blk_simp [iblk]; entry_read; pointwise; blk_ext [idx t]
  · intro k; blk_simp [iblk]; entry_read; pointwise; blk_ext [idx t]
  · exact Fin.ext (by blk_simp [idx t])

end Cert.FfnIdeal.Ffn
-- ==== Proof.FfnRefValue.lean ====
module

public import proofs.«01_k».proof.Proof.TrunkSpec
public import proofs.«01_k».proof.Proof.Gen.FfnRefIdeal.Read

@[expose] public section

set_option maxRecDepth 16384

noncomputable section

/-! The feed-forward layer's reference, row by row. -/

namespace Cert.FfnRefIdeal.Ffn

open Cert.FfnRefIdeal Cert.FfnRefIdeal.Gen Cert.FfnRefIdeal.Read
open Idealize.ShloMosaic Idealize.ShloMosaic.TcCoe Idealize.SL.Sem
open Cert.Trunk

variable (X : (⟨S2x16384x1024, .f32⟩ : BufTy).Contents (Elt Ideal)) (W : (⟨S4x1024x5632, .f32⟩ : BufTy).Contents (Elt Ideal))
    (WO : (⟨S4x2816x1024, .f32⟩ : BufTy).Contents (Elt Ideal)) (G B : (⟨S4x4x1024, .f32⟩ : BufTy).Contents (Elt Ideal))

/-- The input matrix applied to a position: gate columns first, then the second half. -/
theorem input_at (b : Fin 2) (s : Fin 16384) (n : Fin 5632) :
    val_main_v2 (F := Ideal) X W (ix3 b s n) = project (fun k => X (ix3 b s k)) (fun k n => W (ix3 3 k n)) n := by
  pointwise [val_main_v2, val_main_v1, val_main_v0, project]

/-- The hidden units of a position. -/
theorem units_at (b : Fin 2) (s : Fin 16384) (j : Fin 2816) :
    val_main_v6 (F := Ideal) X W (ix3 b s j) = hiddenUnit (fun k => X (ix3 b s k)) (fun k n => W (ix3 3 k n)) j := by
  pointwise [val_main_v6, val_main_v5, val_main_call0_v5, val_main_call0_v4, val_main_call0_v3, val_main_call0_v2,
    val_main_call0_v1, val_main_call0_v0, val_main_call0_cst, val_main_call0_cst_0, val_main_v4, val_main_v3, input_at, hiddenUnit, silu]
  rfl

/-- The residual stream after the feed-forward layer, before the normalisation. -/
theorem sum_at (b : Fin 2) (s : Fin 16384) (c : Fin 1024) :
    val_main_v14 (F := Ideal) X W WO (ix3 b s c)
      = deep (X (ix3 b s c)) + Ideal.ofBits .f32 0x3F000000#32 * ∑ j, val_main_v6 (F := Ideal) X W (ix3 b s j) * WO (ix3 3 j c) := by
  pointwise [val_main_v14, val_main_v13, val_main_v12, val_main_v11, val_main_v10, val_main_v9, val_main_v8, val_main_v7, val_main_cst, val_main_cst_0, deep]

/-- The normalised result. -/
theorem result_at (r : Fin 32768) (c : Fin 1024) :
    val_main_v43 (F := Ideal) X W WO G B (ix2 r c)
      = layerNorm (fun k => val_main_v14 (F := Ideal) X W WO (ix3 ⟨r / 16384, by omega⟩ ⟨r % 16384, by omega⟩ k))
          (fun k => G (ix3 3 3 k)) (fun k => B (ix3 3 3 k)) c := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15,
    val_main_cst_1, val_main_cst_2, val_main_cst_3, val_main_cst_4, val_main_cst_5, layerNorm, variance, mean]

/-- The reference's result at an index is the feed-forward layer of its row. -/
theorem layer_at (r : Fin 32768) (c : Fin 1024) :
    val_main_v43 (F := Ideal) X W WO G B (ix2 r c)
      = ffnRow (fun k => X (ix3 ⟨r / 16384, by omega⟩ ⟨r % 16384, by omega⟩ k))
          (fun k n => W (ix3 3 k n)) (fun k n => WO (ix3 3 k n)) (fun k => G (ix3 3 3 k)) (fun k => B (ix3 3 3 k)) c := by
  rw [result_at]
  simp only [sum_at, units_at, ffnRow]

end Cert.FfnRefIdeal.Ffn
-- ==== Proof.FfnClaim.lean ====
module

public import proofs.«01_k».proof.Defs
public import proofs.«01_k».proof.Proof.Gen.Ffn
public import proofs.«01_k».proof.Proof.Gen.Ffn.Frame
public import proofs.«01_k».proof.Proof.Gen.FfnIdeal.Value
public import proofs.«01_k».proof.Proof.FfnValue
public import proofs.«01_k».proof.Proof.FfnRefValue
public import Idealize.ShloMosaic.Lib.Claim

@[expose] public section

set_option maxRecDepth 16384

noncomputable section

/-! The claims about the feed-forward layer. -/

namespace Cert.Proof

open Idealize.ShloMosaic Idealize.SL.Sem

/-- The printed kernel runs, leaves its arguments alone and ends with every semaphore at zero. -/
theorem frame_Ffn : Cert.quiescent_Ffn := fun m g _ => Cert.Ffn.Gen.frame m g

/-- So does the kernel with exact operations. -/
theorem frame_FfnIdeal : Cert.quiescent_FfnIdeal := fun m g _ => Cert.FfnIdeal.Gen.frame m g

/-- So does the reference, a program with no semaphores. -/
theorem frame_FfnRefIdeal : Cert.quiescent_FfnRefIdeal := fun m g _ =>
  (θ_run _ _ _).mono (fun _ h => ⟨fun c => (h c).2, sem_eq_zero_of_no_sems rfl _⟩) (Cert.FfnRefIdeal.Value.run m g)

/-- The two kernels are one text. -/
theorem preserves_Ffn : Cert.preserves_Ffn_FfnIdeal := trivial

/-- Kernel and reference compute the same array. -/
theorem algebraic_Ffn : Cert.algebraic_FfnIdeal_FfnRefIdeal := by
  pair_intro
  · run_from Cert.FfnIdeal.Gen.run_main m g
  · run_from Cert.FfnRefIdeal.Value.run m' g'
    rw [Cert.FfnRefIdeal.Read.val_main_v43_eq]
    refine Eq.trans ?_ (Cert.FfnIdeal.Ffn.final m c).symm
    refine funext fun j => ?_
    obtain ⟨r, n, rfl⟩ : ∃ (r : Fin 32768) (n : Fin 1024), j = ix2 r n :=
      ⟨j 0, j 1, by ext a; match a with | 0 => rfl | 1 => rfl⟩
    obtain ⟨e0, e1, e2, e3, e4⟩ := hagree c
    refine (Cert.FfnRefIdeal.Ffn.layer_at _ _ _ _ _ r n).trans ?_
    rw [e0, e1, e2, e3, e4]
    rfl

end Cert.Proof
-- ==== Proof.EvenSpec.lean ====
module

public import proofs.«01_k».proof.Proof.TrunkSpec

@[expose] public section

noncomputable section

/-! What the mixer of an even layer computes for one position of a sequence: averages of the last few positions
(pooling) and a causal mixing of the positions of a chunk of 128 (spatial gating). -/

namespace Cert.Trunk

open Idealize.ShloMosaic

/-- The smooth gate `z (1 + tanh (c (z + a z³))) / 2`. -/
def gelu (z : EReal) : EReal :=
  z * (Ideal.ofBits .f32 0x3F000000#32 * (Ideal.ofBits .f32 0x3F800000#32
    + Ideal.tanh (Ideal.ofBits .f32 0x3F4C422A#32 * (z + Ideal.ofBits .f32 0x3D372713#32 * (z * (z * z))))))

/-- The mean of a row of 512 numbers. -/
def mean512 (y : Fin 512 → EReal) : EReal :=
  Ideal.div (∑ k, y k) (Ideal.ofBits .f32 0x44000000#32)

/-- Layer normalisation of a row of 512 numbers. -/
def layerNorm512 (y g b : Fin 512 → EReal) (c : Fin 512) : EReal :=
  (y c - mean512 y) * Ideal.rsqrt (mean512 (fun k => (y k - mean512 y) * (y k - mean512 y)) + Ideal.ofBits .f32 0x3727C5AC#32)
    * g c + b c

/-- The number of positions that a pooling group averages. -/
def window (g : Fin 4) : ℕ := ![2, 4, 8, 16] g

/-- The same number, as a real. -/
def windowR (g : Fin 4) : EReal :=
  Ideal.ofBits .f32 (![0x40000000#32, 0x40800000#32, 0x41000000#32, 0x41800000#32] g)

/-- The average of the last positions, less the present one. `back j` is the entry `j` positions ago (zero before the
    sequence starts) and `pos` the number of positions so far. -/
def pooled (g : Fin 4) (pos : EReal) (back : ℕ → EReal) (now : EReal) : EReal :=
  Ideal.div (∑ j ∈ Finset.range (window g), back j) (min pos (windowR g)) - now

/-- Column `128 g + k` of a row of 512 numbers: entry `k` of group `g`. -/
def groupCol (g : Fin 4) (k : Fin 128) : Fin 512 := ⟨g * 128 + k, by omega⟩

/-- The pooling half of the mixer: each group's pooled entries times the group's matrix, scaled. -/
def poolOut (pos : EReal) (back : ℕ → Fin 512 → EReal) (now : Fin 512 → EReal) (w : Fin 4 → Fin 128 → Fin 128 → EReal)
    (scale : Fin 512 → EReal) (c : Fin 512) : EReal :=
  (∑ k, pooled ⟨c / 128, by omega⟩ pos (fun j => back j (groupCol ⟨c / 128, by omega⟩ k)) (now (groupCol ⟨c / 128, by omega⟩ k))
    * w ⟨c / 128, by omega⟩ k ⟨c % 128, Nat.mod_lt _ (by decide)⟩) * scale c

/-- The pooling half at a column of group `g`. -/
theorem poolOut_cases (pos : EReal) (back : ℕ → Fin 512 → EReal) (now : Fin 512 → EReal) (w : Fin 4 → Fin 128 → Fin 128 → EReal)
    (scale : Fin 512 → EReal) (g : Fin 4) (d : Fin 128) : poolOut pos back now w scale (groupCol g d)
      = (∑ k, pooled g pos (fun j => back j (groupCol g k)) (now (groupCol g k)) * w g k d) * scale (groupCol g d) := by
  have h1 : (g.val * 128 + d.val) / 128 = g.val := by omega
  have h2 : (g.val * 128 + d.val) % 128 = d.val := by omega
  simp only [poolOut, groupCol, h1, h2, Fin.eta]

/-- A column of 512 lies in the group it is divided into. -/
theorem groupCol_div_mod (c : Fin 512) : groupCol ⟨c / 128, by omega⟩ ⟨c % 128, Nat.mod_lt _ (by decide)⟩ = c :=
  Fin.ext (by simp only [groupCol]; omega)

/-- Two groups' matrices on the diagonal of one, zero elsewhere: groups 0 and 1, or groups 2 and 3. -/
def blocks (w : Fin 4 → Fin 128 → Fin 128 → EReal) (half : Fin 2) (k n : Fin 256) : EReal :=
  if k.val / 128 = n.val / 128 then
    w ⟨half * 2 + k / 128, by omega⟩ ⟨k % 128, Nat.mod_lt _ (by decide)⟩ ⟨n % 128, Nat.mod_lt _ (by decide)⟩ else 0

/-- A block on the diagonal. -/
theorem blocks_on (w : Fin 4 → Fin 128 → Fin 128 → EReal) (half : Fin 2) (g : Fin 4) (a : ℕ) {k n : Fin 256} (k' n' : Fin 128)
    (hg : g.val = half * 2 + a) (hk : k.val = a * 128 + k') (hn : n.val = a * 128 + n') : blocks w half k n = w g k' n' := by
  have h1 : k.val / 128 = a := by omega
  have h2 : n.val / 128 = a := by omega
  have h3 : k.val % 128 = k'.val := by omega
  have h4 : n.val % 128 = n'.val := by omega
  simp only [blocks, h1, h2, h3, h4, if_true, Fin.eta, ← hg]

/-- A block off the diagonal. -/
theorem blocks_off (w : Fin 4 → Fin 128 → Fin 128 → EReal) (half : Fin 2) {k n : Fin 256} (h : ¬ k.val / 128 = n.val / 128) :
    blocks w half k n = 0 := if_neg h

/-- A choice by comparing two row numbers of a chunk. -/
theorem causal {α : Type} (r s : Fin 128) (x y : α) :
    Scalar.select (IntOp.cmpi .sge (BitVec.ofNat 32 r) (BitVec.ofNat 32 s)) x y = if s ≤ r then x else y := by
  have h : ∀ r s : Fin 128, IntOp.cmpi .sge (BitVec.ofNat 32 r) (BitVec.ofNat 32 s) = if s ≤ r then 1#1 else 0#1 := by
    decide +kernel
  rw [h]
  by_cases hs : s ≤ r
  · rw [if_pos hs, if_pos hs]; rfl
  · rw [if_neg hs, if_neg hs]; rfl

/-- The gating half: the gate times a causal mixture of the rows `v` of a chunk, of which this is row `r`. -/
def gateOut (r : Fin 128) (u : Fin 512 → EReal) (v : Fin 128 → Fin 512 → EReal) (lg lb : Fin 512 → EReal)
    (w : Fin 4 → Fin 128 → Fin 128 → EReal) (bias : Fin 4 → Fin 128 → EReal) (c : Fin 512) : EReal :=
  gelu (u c) * ((∑ s, (if s ≤ r then w ⟨c / 128, by omega⟩ r s else 0) * layerNorm512 (fun k => gelu (v s k)) lg lb c)
    + bias ⟨c / 128, by omega⟩ r)

/-- The gating half at a column of group `g`. -/
theorem gateOut_cases (r : Fin 128) (u : Fin 512 → EReal) (v : Fin 128 → Fin 512 → EReal) (lg lb : Fin 512 → EReal)
    (w : Fin 4 → Fin 128 → Fin 128 → EReal) (bias : Fin 4 → Fin 128 → EReal) (g : Fin 4) (d : Fin 128) :
    gateOut r u v lg lb w bias (groupCol g d) = gelu (u (groupCol g d))
      * ((∑ s, (if s ≤ r then w g r s else 0) * layerNorm512 (fun k => gelu (v s k)) lg lb (groupCol g d)) + bias g r) := by
  have h1 : (g.val * 128 + d.val) / 128 = g.val := by omega
  simp only [gateOut, groupCol, h1, Fin.eta]

/-- One row of the mixer's result from its two halves: the output projection, the scaled residual, the norm. -/
def mixRow (x : Fin 1024 → EReal) (ya yb : Fin 512 → EReal) (wo : Fin 1024 → Fin 1024 → EReal) (g b : Fin 1024 → EReal) :
    Fin 1024 → EReal :=
  layerNorm (fun c => deep (x c) + ((∑ k : Fin 512, ya k * wo ⟨k, by omega⟩ c) + ∑ k : Fin 512, yb k * wo ⟨512 + k, by omega⟩ c)) g b

/-- One row of the mixer: `x` is the row itself, `h` its projection, `chunk` the projections of the 128 rows of its
    chunk, in which it is row `t`, and `back j` the projection `j` positions before. -/
def evenRow (x : Fin 1024 → EReal) (pos : EReal) (back : ℕ → Fin 512 → EReal) (h : Fin 1536 → EReal) (chunk : Fin 128 → Fin 1536 → EReal)
    (t : Fin 128) (w : Fin 4 → Fin 128 → Fin 128 → EReal) (scale lg lb : Fin 512 → EReal) (sw : Fin 4 → Fin 128 → Fin 128 → EReal)
    (sb : Fin 4 → Fin 128 → EReal) (wo : Fin 1024 → Fin 1024 → EReal) (g b : Fin 1024 → EReal) : Fin 1024 → EReal :=
  mixRow x (poolOut pos back (fun k => h ⟨k, by omega⟩) w scale)
    (gateOut t (fun k => h ⟨512 + k, by omega⟩) (fun s k => chunk s ⟨1024 + k, by omega⟩) lg lb sw sb) wo g b

/-- The number of positions up to and with `s`, as a real. -/
def position (s : ℕ) : EReal := FloatOps.sitofp (F := Ideal) .f32 (1#32 + BitVec.ofNat 32 s)

/-- The mixer at position `s` of a sequence `X`: the row's projection, the projections of the positions before it (zero
    before the start) and those of its chunk of 128. -/
def evenAt (X : Fin 16384 → Fin 1024 → EReal) (W : Fin 1024 → Fin 1536 → EReal) (w : Fin 4 → Fin 128 → Fin 128 → EReal)
    (scale lg lb : Fin 512 → EReal) (sw : Fin 4 → Fin 128 → Fin 128 → EReal) (sb : Fin 4 → Fin 128 → EReal)
    (wo : Fin 1024 → Fin 1024 → EReal) (g b : Fin 1024 → EReal) (s : Fin 16384) : Fin 1024 → EReal :=
  evenRow (X s) (position s) (fun j c => if j ≤ s.val then project (X ⟨s - j, by omega⟩) W ⟨c, by omega⟩ else 0) (project (X s) W)
    (fun i => project (X ⟨s / 128 * 128 + i, by omega⟩) W) ⟨s % 128, Nat.mod_lt _ (by decide)⟩ w scale lg lb sw sb wo g b

/-- The pooling half looks back at most fifteen positions. -/
theorem poolOut_congr {pos : EReal} {back back' : ℕ → Fin 512 → EReal} {now : Fin 512 → EReal} {w : Fin 4 → Fin 128 → Fin 128 → EReal}
    {scale : Fin 512 → EReal} (h : ∀ j < 16, ∀ c, back j c = back' j c) :
    poolOut pos back now w scale = poolOut pos back' now w scale := by
  have hw : ∀ g : Fin 4, window g ≤ 16 := by decide
  funext c
  refine congrArg (· * _) (Finset.sum_congr rfl fun k _ => congrArg (· * _) ?_)
  unfold pooled
  rw [Finset.sum_congr rfl fun j hj => h j (lt_of_lt_of_le (Finset.mem_range.1 hj) (hw _)) _]

/-- Two rows of the mixer agree when their ingredients agree entry by entry. -/
theorem evenRow_congr {x x' g g' b b' : Fin 1024 → EReal} {pos pos' : EReal} {back back' : ℕ → Fin 512 → EReal} {h h' : Fin 1536 → EReal}
    {chunk chunk' : Fin 128 → Fin 1536 → EReal} {t t' : Fin 128} {w w' sw sw' : Fin 4 → Fin 128 → Fin 128 → EReal}
    {scale scale' lg lg' lb lb' : Fin 512 → EReal} {sb sb' : Fin 4 → Fin 128 → EReal} {wo wo' : Fin 1024 → Fin 1024 → EReal}
    {c c' : Fin 1024} (hx : ∀ k, x k = x' k) (hpos : pos = pos') (hback : ∀ j < 16, ∀ c, back j c = back' j c)
    (hh : ∀ k, h k = h' k) (hchunk : ∀ s k, chunk s k = chunk' s k) (ht : t = t') (hw : ∀ i k n, w i k n = w' i k n)
    (hscale : ∀ k, scale k = scale' k) (hlg : ∀ k, lg k = lg' k) (hlb : ∀ k, lb k = lb' k) (hsw : ∀ i k n, sw i k n = sw' i k n)
    (hsb : ∀ i k, sb i k = sb' i k) (hwo : ∀ k n, wo k n = wo' k n) (hg : ∀ k, g k = g' k) (hb : ∀ k, b k = b' k) (hc : c = c') :
    evenRow x pos back h chunk t w scale lg lb sw sb wo g b c
      = evenRow x' pos' back' h' chunk' t' w' scale' lg' lb' sw' sb' wo' g' b' c' := by
  obtain rfl := funext hx
  obtain rfl := funext hh
  obtain rfl := funext fun s => funext (hchunk s)
  obtain rfl := funext fun i => funext fun k => funext (hw i k)
  obtain rfl := funext hscale
  obtain rfl := funext hlg
  obtain rfl := funext hlb
  obtain rfl := funext fun i => funext fun k => funext (hsw i k)
  obtain rfl := funext fun i => funext (hsb i)
  obtain rfl := funext fun k => funext (hwo k)
  obtain rfl := funext hg
  obtain rfl := funext hb
  subst hpos ht hc
  unfold evenRow
  rw [poolOut_congr hback]

/-- The choice by which the host lays out matrices on a diagonal. -/
theorem on_diagonal (φ : FTy) (a b : Fin 8) : FloatOps.uitofp (F := Ideal) φ (IntOp.cmpi .eq (IntOp.addi (BitVec.ofNat 32 a) 0#32) (BitVec.ofNat 32 b))
    = if a = b then 1 else 0 := by
  have h : ∀ a b : Fin 8, IntOp.cmpi .eq (IntOp.addi (BitVec.ofNat 32 a) 0#32) (BitVec.ofNat 32 b) = if a = b then 1#1 else 0#1 := by decide +kernel
  rw [h]
  split
  · show ((((1#1 : BitVec 1).toNat : ℕ) : ℝ) : EReal) = 1
    simp
  · show ((((0#1 : BitVec 1).toNat : ℕ) : ℝ) : EReal) = 0
    simp

end Cert.Trunk
-- ==== Proof.EvenPure.lean ====
module

public import proofs.«01_k».proof.Proof.EvenSpec
public import proofs.«01_k».proof.Proof.Gen.EvenIdeal.Skeleton

@[expose] public section

set_option maxRecDepth 16384

noncomputable section

/-! One tile of 256 rows of the mixer kernel, entry by entry. -/

namespace Cert.EvenIdeal.Even

open Cert.EvenIdeal Cert.EvenIdeal.Gen Idealize.ShloMosaic Idealize.ShloMosaic.TcCoe Idealize.SL.Sem
open Cert.Trunk

/-- The first pooling group of a tile, from its rows `h`, the same rows with 16 earlier ones `e`, and the positions. -/
def pool2 (pos : FVec Ideal S256x1 .f32) (v8 : FVec Ideal S256x1536 .f32) (v69 : Vec Ideal S272x512 .f32) : FVec Ideal S256x128 .f32 :=
  have v77 : FVec Ideal S272x128 .f32 := extractStridedSlice S272x128 ![0, 0] v69 slices_S272x512_o0_0_S272x128
  have v78 : FVec Ideal S272x128 .f32 := dynamicRotate 0 1#32 none v77 rotates_S272x128_d0
  have v79 : FVec Ideal S272x128 .f32 := addf v77 v78
  have v80 : FVec Ideal S256x128 .f32 := extractStridedSlice S256x128 ![16, 0] v79 slices_S272x128_o16_0_S256x128
  have v82 : FVec Ideal S256x1 .f32 := minimumf pos (broadcast S256x1 (Scalar.ofBits .f32 0x40000000#32))
  have v84 : FVec Ideal S256x128 .f32 := divf v80 (broadcastTo S256x128 v82 broadcasts_S256x1_S256x128)
  subf v84 (extractStridedSlice S256x128 ![0, 0] v8 slices_S256x1536_o0_0_S256x128)

/-- The second pooling group of a tile. -/
def pool4 (pos : FVec Ideal S256x1 .f32) (v8 : FVec Ideal S256x1536 .f32) (v69 : Vec Ideal S272x512 .f32) : FVec Ideal S256x128 .f32 :=
  have v87 : FVec Ideal S272x128 .f32 := extractStridedSlice S272x128 ![0, 128] v69 slices_S272x512_o0_128_S272x128
  have v89 : FVec Ideal S272x128 .f32 := addf v87 (dynamicRotate 0 1#32 none v87 rotates_S272x128_d0)
  have v91 : FVec Ideal S272x128 .f32 := addf v89 (dynamicRotate 0 2#32 none v89 rotates_S272x128_d0)
  have v92 : FVec Ideal S256x128 .f32 := extractStridedSlice S256x128 ![16, 0] v91 slices_S272x128_o16_0_S256x128
  have v94 : FVec Ideal S256x1 .f32 := minimumf pos (broadcast S256x1 (Scalar.ofBits .f32 0x40800000#32))
  have v96 : FVec Ideal S256x128 .f32 := divf v92 (broadcastTo S256x128 v94 broadcasts_S256x1_S256x128)
  subf v96 (extractStridedSlice S256x128 ![0, 128] v8 slices_S256x1536_o0_128_S256x128)

/-- The third pooling group of a tile. -/
def pool8 (pos : FVec Ideal S256x1 .f32) (v8 : FVec Ideal S256x1536 .f32) (v69 : Vec Ideal S272x512 .f32) : FVec Ideal S256x128 .f32 :=
  have v106 : FVec Ideal S256x128 .f32 := extractStridedSlice S256x128 ![16, 0] (k0_pay21 v69) slices_S272x128_o16_0_S256x128
  have v108 : FVec Ideal S256x1 .f32 := minimumf pos (broadcast S256x1 (Scalar.ofBits .f32 0x41000000#32))
  have v110 : FVec Ideal S256x128 .f32 := divf v106 (broadcastTo S256x128 v108 broadcasts_S256x1_S256x128)
  subf v110 (extractStridedSlice S256x128 ![0, 256] v8 slices_S256x1536_o0_256_S256x128)

/-- The fourth pooling group of a tile. -/
def pool16 (pos : FVec Ideal S256x1 .f32) (v8 : FVec Ideal S256x1536 .f32) (v69 : Vec Ideal S272x512 .f32) : FVec Ideal S256x128 .f32 :=
  have v113 : FVec Ideal S272x128 .f32 := extractStridedSlice S272x128 ![0, 384] v69 slices_S272x512_o0_384_S272x128
  have v115 : FVec Ideal S272x128 .f32 := addf v113 (dynamicRotate 0 1#32 none v113 rotates_S272x128_d0)
  have v117 : FVec Ideal S272x128 .f32 := addf v115 (dynamicRotate 0 2#32 none v115 rotates_S272x128_d0)
  have v119 : FVec Ideal S272x128 .f32 := addf v117 (dynamicRotate 0 4#32 none v117 rotates_S272x128_d0)
  have v121 : FVec Ideal S272x128 .f32 := addf v119 (dynamicRotate 0 8#32 none v119 rotates_S272x128_d0)
  have v122 : FVec Ideal S256x128 .f32 := extractStridedSlice S256x128 ![16, 0] v121 slices_S272x128_o16_0_S256x128
  have v124 : FVec Ideal S256x1 .f32 := minimumf pos (broadcast S256x1 (Scalar.ofBits .f32 0x41800000#32))
  have v126 : FVec Ideal S256x128 .f32 := divf v122 (broadcastTo S256x128 v124 broadcasts_S256x1_S256x128)
  subf v126 (extractStridedSlice S256x128 ![0, 384] v8 slices_S256x1536_o0_384_S256x128)

variable (pos : FVec Ideal S256x1 .f32) (h : FVec Ideal S256x1536 .f32) (e : Vec Ideal S272x512 .f32)

/-- Column `c` of the extended rows, `j` rows before row `r` of the tile. -/
def before (r : Fin 256) (j : ℕ) (c : Fin 512) : EReal := e (ix2 ⟨r + 16 - j, by omega⟩ c)

/-- The extended rows by row number. -/
theorem by_row (c : Fin 512) : ∃ f : ℕ → EReal, ∀ n hn, e (ix2 ⟨n, hn⟩ c) = f n :=
  ⟨fun n => if hn : n < 272 then e (ix2 ⟨n, hn⟩ c) else 0, fun n hn => by simp [hn]⟩

/-- Doubling a window: a vector whose rows are sums over the last `n` rows, added to itself moved down by `n` rows,
    has the sums over the last `2 n` rows. -/
theorem double (f : ℕ → EReal) (c : Fin 128) (Y : FVec Ideal S272x128 .f32) (n : ℕ) (s : BitVec 32) (hs : s.toNat = n) (hn : n ≤ 8)
    (hY : ∀ r : Fin 272, n ≤ r.val + 1 → Y (ix2 r c) = ∑ j ∈ Finset.range n, f (r - j)) (r : Fin 272) (hr : n + n ≤ r.val + 1) :
    addf Y (dynamicRotate 0 s none Y rotates_S272x128_d0) (ix2 r c) = ∑ j ∈ Finset.range (n + n), f (r - j) := by
  have key : addf Y (dynamicRotate 0 s none Y rotates_S272x128_d0) (ix2 r c) = Y (ix2 r c) + Y (ix2 ⟨r - n, by omega⟩ c) := by
    subst hs
    pointwise
    refine congrArg _ (congrArg (fun i => Y (ix2 i c)) (Fin.ext ?_))
    show (r.val + 272 - s.toNat % 272) % 272 = r.val - s.toNat
    omega
  rw [key, hY r (by omega), hY ⟨r - n, by omega⟩ (by show n ≤ r.val - n + 1; omega), Finset.sum_range_add]
  refine congrArg _ (Finset.sum_congr rfl fun j _ => congrArg f ?_)
  show r.val - n - j = r.val - (n + j)
  omega

/-- One row is a window of one. -/
theorem single (f : ℕ → EReal) (c : Fin 128) (Y : FVec Ideal S272x128 .f32) (hY : ∀ r : Fin 272, Y (ix2 r c) = f r)
    (r : Fin 272) (hr : 1 ≤ r.val + 1) : Y (ix2 r c) = ∑ j ∈ Finset.range 1, f (r - j) := by
  rw [Finset.sum_range_one]; exact hY r

/-- The rows of a tile are the extended rows from the sixteenth on. -/
theorem slice_at (Y : FVec Ideal S272x128 .f32) (r : Fin 256) (k : Fin 128) :
    extractStridedSlice S256x128 ![16, 0] Y slices_S272x128_o16_0_S256x128 (ix2 r k) = Y (ix2 ⟨16 + r, by omega⟩ k) := by
  pointwise

/-- The pooling group of two positions, entry by entry. -/
theorem pool2_at (r : Fin 256) (k : Fin 128) : pool2 pos h e (ix2 r k)
    = pooled 0 (pos (ix2 r 0)) (fun j => before e r j (groupCol 0 k)) (h (ix2 r ⟨(groupCol 0 k).val, by omega⟩)) := by
  obtain ⟨f, hf⟩ := by_row e (groupCol 0 k)
  have h1 := single f k (extractStridedSlice S272x128 ![0, 0] e slices_S272x512_o0_0_S272x128)
    (fun r => by rw [← hf r.val r.isLt]; pointwise [groupCol])
  have h2 := double f k _ 1 1#32 rfl (by decide) h1 ⟨16 + r, by omega⟩ (by show _ ≤ 16 + r.val + 1; omega)
  rw [show (fun j => before e r j (groupCol 0 k)) = fun j => f (16 + r - j) from
    funext fun j => (hf _ _).trans (by rw [add_comm])]
  show Ideal.div _ _ - _ = Ideal.div (∑ j ∈ Finset.range 2, _) (min _ (Ideal.ofBits .f32 0x40000000#32)) - _
  refine congrArg₂ _ (congrArg₂ _ ((slice_at _ r k).trans h2) ?_) ?_
  · pointwise
  · pointwise [groupCol]

/-- The pooling group of four positions, entry by entry. -/
theorem pool4_at (r : Fin 256) (k : Fin 128) : pool4 pos h e (ix2 r k)
    = pooled 1 (pos (ix2 r 0)) (fun j => before e r j (groupCol 1 k)) (h (ix2 r ⟨(groupCol 1 k).val, by omega⟩)) := by
  obtain ⟨f, hf⟩ := by_row e (groupCol 1 k)
  have h1 := single f k (extractStridedSlice S272x128 ![0, 128] e slices_S272x512_o0_128_S272x128)
    (fun r => by rw [← hf r.val r.isLt]; pointwise [groupCol])
  have h2 := double f k _ 1 1#32 rfl (by decide) h1
  have h4 := double f k _ 2 2#32 rfl (by decide) h2 ⟨16 + r, by omega⟩ (by show _ ≤ 16 + r.val + 1; omega)
  rw [show (fun j => before e r j (groupCol 1 k)) = fun j => f (16 + r - j) from
    funext fun j => (hf _ _).trans (by rw [add_comm])]
  show Ideal.div _ _ - _ = Ideal.div (∑ j ∈ Finset.range 4, _) (min _ (Ideal.ofBits .f32 0x40800000#32)) - _
  refine congrArg₂ _ (congrArg₂ _ ((slice_at _ r k).trans h4) ?_) ?_
  · pointwise
  · pointwise [groupCol]

/-- The pooling group of eight positions, entry by entry. -/
theorem pool8_at (r : Fin 256) (k : Fin 128) : pool8 pos h e (ix2 r k)
    = pooled 2 (pos (ix2 r 0)) (fun j => before e r j (groupCol 2 k)) (h (ix2 r ⟨(groupCol 2 k).val, by omega⟩)) := by
  obtain ⟨f, hf⟩ := by_row e (groupCol 2 k)
  have h1 := single f k (extractStridedSlice S272x128 ![0, 256] e slices_S272x512_o0_256_S272x128)
    (fun r => by rw [← hf r.val r.isLt]; pointwise [groupCol])
  have h2 := double f k _ 1 1#32 rfl (by decide) h1
  have h4 := double f k _ 2 2#32 rfl (by decide) h2
  have h8 := double f k _ 4 4#32 rfl (by decide) h4 ⟨16 + r, by omega⟩ (by show _ ≤ 16 + r.val + 1; omega)
  rw [show (fun j => before e r j (groupCol 2 k)) = fun j => f (16 + r - j) from
    funext fun j => (hf _ _).trans (by rw [add_comm])]
  show Ideal.div _ _ - _ = Ideal.div (∑ j ∈ Finset.range 8, _) (min _ (Ideal.ofBits .f32 0x41000000#32)) - _
  refine congrArg₂ _ (congrArg₂ _ ((slice_at _ r k).trans h8) ?_) ?_
  · pointwise
  · pointwise [groupCol]

/-- The pooling group of sixteen positions, entry by entry. -/
theorem pool16_at (r : Fin 256) (k : Fin 128) : pool16 pos h e (ix2 r k)
    = pooled 3 (pos (ix2 r 0)) (fun j => before e r j (groupCol 3 k)) (h (ix2 r ⟨(groupCol 3 k).val, by omega⟩)) := by
  obtain ⟨f, hf⟩ := by_row e (groupCol 3 k)
  have h1 := single f k (extractStridedSlice S272x128 ![0, 384] e slices_S272x512_o0_384_S272x128)
    (fun r => by rw [← hf r.val r.isLt]; pointwise [groupCol])
  have h2 := double f k _ 1 1#32 rfl (by decide) h1
  have h4 := double f k _ 2 2#32 rfl (by decide) h2
  have h8 := double f k _ 4 4#32 rfl (by decide) h4
  have h16 := double f k _ 8 8#32 rfl (by decide) h8 ⟨16 + r, by omega⟩ (by show _ ≤ 16 + r.val + 1; omega)
  rw [show (fun j => before e r j (groupCol 3 k)) = fun j => f (16 + r - j) from
    funext fun j => (hf _ _).trans (by rw [add_comm])]
  show Ideal.div _ _ - _ = Ideal.div (∑ j ∈ Finset.range 16, _) (min _ (Ideal.ofBits .f32 0x41800000#32)) - _
  refine congrArg₂ _ (congrArg₂ _ ((slice_at _ r k).trans h16) ?_) ?_
  · pointwise
  · pointwise [groupCol]

/-- The pooling half of a tile. -/
def poolTile (p0 p1 : Vec Ideal S1x1x256x256 .bf16) (sc : Vec Ideal S1x1x512 .f32) : FVec Ideal S256x512 .f32 :=
  have v129 : FVec Ideal S256x256 .f32 := concatenate S256x256 1 [⟨S256x128, pool2 pos h e⟩, ⟨S256x128, pool4 pos h e⟩] concatenates_S256x128_S256x128_S256x256_d1
  have v131 : FVec Ideal S256x256 .bf16 := shapeCast S256x256 p0 shapeCasts_S1x1x256x256_S256x256
  have v132 : FVec Ideal S256x256 .bf16 := truncf .bf16 v129 bitsLt_bf16_f32
  have v133 : FVec Ideal S256x256 .f32 := matmul dot_S256x256_S256x256_S256x256_1_0_0_1_n_n none v132 v131 (constant S256x256 .f32 0x00000000#32)
  have v134 : FVec Ideal S256x256 .f32 := concatenate S256x256 1 [⟨S256x128, pool8 pos h e⟩, ⟨S256x128, pool16 pos h e⟩] concatenates_S256x128_S256x128_S256x256_d1
  have v136 : FVec Ideal S256x256 .bf16 := shapeCast S256x256 p1 shapeCasts_S1x1x256x256_S256x256
  have v137 : FVec Ideal S256x256 .bf16 := truncf .bf16 v134 bitsLt_bf16_f32
  have v138 : FVec Ideal S256x256 .f32 := matmul dot_S256x256_S256x256_S256x256_1_0_0_1_n_n none v137 v136 (constant S256x256 .f32 0x00000000#32)
  have v139 : FVec Ideal S256x512 .f32 := concatenate S256x512 1 [⟨S256x256, v133⟩, ⟨S256x256, v138⟩] concatenates_S256x256_S256x256_S256x512_d1
  mulf v139 (broadcastTo S256x512 (shapeCast S1x512 sc shapeCasts_S1x1x512_S1x512) broadcasts_S1x512_S256x512)

/-- The pooling half of a tile, entry by entry, for matrices that hold the groups' matrices on their diagonal. -/
theorem poolTile_at (p0 p1 : Vec Ideal S1x1x256x256 .bf16) (sc : Vec Ideal S1x1x512 .f32) (w : Fin 4 → Fin 128 → Fin 128 → EReal)
    (h0 : ∀ k n, p0 (ix4 0 0 k n) = blocks w 0 k n) (h1 : ∀ k n, p1 (ix4 0 0 k n) = blocks w 1 k n) (r : Fin 256) (c : Fin 512) :
    poolTile pos h e p0 p1 sc (ix2 r c)
      = poolOut (pos (ix2 r 0)) (before e r) (fun k => h (ix2 r ⟨k, by omega⟩)) w (fun k => sc (ix3 0 0 k)) c := by
  obtain ⟨g, d, rfl⟩ : ∃ g d, c = groupCol g d := ⟨_, _, (groupCol_div_mod c).symm⟩
  rw [poolOut_cases]
  match g with
  | 0 =>
    pointwise [poolTile, groupCol]
    rw [dif_pos (by omega)]
    simp only [pool2_at, pool4_at, h0]
    refine congrArg (· * _) ((congrArg₂ (· + ·) (Finset.sum_congr rfl fun x _ => congrArg₂ (· * ·) (by pointwise [groupCol]) (blocks_on w 0 0 0 x d (by rfl) (by simp) (by simp)))
      (Finset.sum_eq_zero fun x _ => by rw [blocks_off _ _ (by simp; omega), mul_zero])).trans (add_zero _))
  | 1 =>
    pointwise [poolTile, groupCol]
    rw [dif_pos (by omega)]
    simp only [pool2_at, pool4_at, h0]
    refine congrArg (· * _) ((congrArg₂ (· + ·) (Finset.sum_eq_zero fun x _ => by rw [blocks_off _ _ (by simp; omega), mul_zero])
      (Finset.sum_congr rfl fun x _ => congrArg₂ (· * ·) (by pointwise [groupCol]) (blocks_on w 0 1 1 x d (by rfl) (by simp) (by simp)))).trans (zero_add _))
  | 2 =>
    pointwise [poolTile, groupCol]
    simp only [pool8_at, pool16_at, h1]
    refine congrArg (· * _) ((congrArg₂ (· + ·) (Finset.sum_congr rfl fun x _ => congrArg₂ (· * ·) (by pointwise [groupCol]) (blocks_on w 1 2 0 x d (by rfl) (by simp) (by simp)))
      (Finset.sum_eq_zero fun x _ => by rw [blocks_off _ _ (by simp; omega), mul_zero])).trans (add_zero _))
  | 3 =>
    pointwise [poolTile, groupCol]
    rw [dif_neg (by omega)]
    simp only [pool8_at, pool16_at, h1]
    refine congrArg (· * _) ((congrArg₂ (· + ·) (Finset.sum_eq_zero fun x _ => by rw [blocks_off _ _ (by simp; omega), mul_zero])
      (Finset.sum_congr rfl fun x _ => congrArg₂ (· * ·) (by pointwise [groupCol]) (blocks_on w 1 3 1 x d (by rfl) (by simp) (by simp; omega)))).trans (zero_add _))

/-- The normalised rows of the gating half. -/
theorem norm_at (g b : Vec Ideal S1x1x512 .f32) (r : Fin 256) (c : Fin 512) :
    k0_pay31 (k0_pay26 g) (k0_pay27 b) (k0_pay28 h) (k0_pay29 h) k0_pay30 (ix2 r c)
      = layerNorm512 (fun k => gelu (h (ix2 r ⟨1024 + k, by omega⟩))) (fun k => g (ix3 0 0 k)) (fun k => b (ix3 0 0 k)) c := by
  pointwise [k0_pay31, k0_pay26, k0_pay27, k0_pay28, k0_pay29, k0_pay30, layerNorm512, mean512, gelu]

/-- The gates. -/
theorem gate_at (r : Fin 256) (c : Fin 512) :
    k0_pay25 (k0_pay23 h) (k0_pay24 h) (ix2 r c) = gelu (h (ix2 r ⟨512 + c, by omega⟩)) := by
  pointwise [k0_pay25, k0_pay23, k0_pay24, gelu]

/-- The mixing matrix of a head is zero above the diagonal. -/
theorem mask_at (s0 : Vec Ideal S1x1x128x128 .f32) (r s : Fin 128) :
    k0_pay13 s0 (ix2 r s) = if s ≤ r then s0 (ix4 0 0 r s) else 0 := by
  pointwise [k0_pay13]
  rw [causal]

/-- The gating half of a tile. -/
def gateTile (g b : Vec Ideal S1x1x512 .f32) (s0 s1 s2 s3 : Vec Ideal S1x1x128x128 .f32) (b0 b1 b2 b3 : Vec Ideal S1x128x1 .f32) :
    FVec Ideal S256x512 .f32 :=
  k0_pay39 (k0_pay25 (k0_pay23 h) (k0_pay24 h))
    (k0_pay32 (k0_pay13 s0) (k0_pay26 g) (k0_pay27 b) (k0_pay28 h) (k0_pay29 h) k0_pay30 b0)
    (k0_pay33 (k0_pay14 s1) (k0_pay26 g) (k0_pay27 b) (k0_pay28 h) (k0_pay29 h) k0_pay30 b1)
    (k0_pay34 (k0_pay15 s2) (k0_pay26 g) (k0_pay27 b) (k0_pay28 h) (k0_pay29 h) k0_pay30 b2)
    (k0_pay35 (k0_pay17 k0_pay16 s3) (k0_pay26 g) (k0_pay27 b) (k0_pay28 h) (k0_pay29 h) k0_pay30 b3)
    (k0_pay36 (k0_pay13 s0) (k0_pay26 g) (k0_pay27 b) (k0_pay28 h) (k0_pay29 h) k0_pay30 b0)
    (k0_pay37 (k0_pay14 s1) (k0_pay26 g) (k0_pay27 b) (k0_pay28 h) (k0_pay29 h) k0_pay30 b1)
    (k0_pay38 (k0_pay15 s2) (k0_pay26 g) (k0_pay27 b) (k0_pay28 h) (k0_pay29 h) k0_pay30 b2)

/-- The gating half of a tile, entry by entry: row `128 half + t` is row `t` of its chunk. -/
theorem gateTile_at (g b : Vec Ideal S1x1x512 .f32) (s0 s1 s2 s3 : Vec Ideal S1x1x128x128 .f32) (b0 b1 b2 b3 : Vec Ideal S1x128x1 .f32)
    (w : Fin 4 → Fin 128 → Fin 128 → EReal) (bias : Fin 4 → Fin 128 → EReal)
    (w0 : ∀ r k, s0 (ix4 0 0 r k) = w 0 r k) (w1 : ∀ r k, s1 (ix4 0 0 r k) = w 1 r k)
    (w2 : ∀ r k, s2 (ix4 0 0 r k) = w 2 r k) (w3 : ∀ r k, s3 (ix4 0 0 r k) = w 3 r k)
    (c0 : ∀ r, b0 (ix3 0 r 0) = bias 0 r) (c1 : ∀ r, b1 (ix3 0 r 0) = bias 1 r)
    (c2 : ∀ r, b2 (ix3 0 r 0) = bias 2 r) (c3 : ∀ r, b3 (ix3 0 r 0) = bias 3 r)
    (half : Fin 2) (t : Fin 128) (c : Fin 512) :
    gateTile h g b s0 s1 s2 s3 b0 b1 b2 b3 (ix2 ⟨half * 128 + t, by omega⟩ c)
      = gateOut t (fun k => h (ix2 ⟨half * 128 + t, by omega⟩ ⟨512 + k, by omega⟩))
          (fun s k => h (ix2 ⟨half * 128 + s, by omega⟩ ⟨1024 + k, by omega⟩))
          (fun k => g (ix3 0 0 k)) (fun k => b (ix3 0 0 k)) w bias c := by
  obtain ⟨q, d, rfl⟩ : ∃ q d, c = groupCol q d := ⟨_, _, (groupCol_div_mod c).symm⟩
  rw [gateOut_cases]
  have m1 : k0_pay14 s1 = k0_pay13 s1 := rfl
  have m2 : k0_pay15 s2 = k0_pay13 s2 := rfl
  have m3 : k0_pay17 k0_pay16 s3 = k0_pay13 s3 := rfl
  have n1 : ¬ 128 + d.val < 128 := by omega
  have n2 : ¬ 256 + d.val < 128 := by omega
  have n3 : ¬ 384 + d.val < 128 := by omega
  have a1 : 128 + d.val - 128 = d.val := by omega
  have a2 : 256 + d.val - 128 = 128 + d.val := by omega
  have a3 : 384 + d.val - 128 = 256 + d.val := by omega
  match half, q with
  | 0, 0 | 0, 1 | 0, 2 | 0, 3 | 1, 0 | 1, 1 | 1, 2 | 1, 3 =>
    pointwise [gateTile, k0_pay39, k0_pay32, k0_pay33, k0_pay34, k0_pay35, k0_pay36, k0_pay37, k0_pay38, groupCol]
    simp only [m1, m2, m3, mask_at, norm_at, gate_at, w0, w1, w2, w3, c0, c1, c2, c3, n1, n2, n3, a1, a2, a3, d.isLt, ↓reduceDIte]

/-- A tile from its two halves. -/
def mixTile (ya yb : FVec Ideal S256x512 .f32) (w0 w1 : Vec Ideal S1x512x1024 .bf16) (x : Vec Ideal S256x1024 .f32)
    (g b : Vec Ideal S1x1x1024 .f32) : FVec Ideal S256x1024 .f32 :=
  k0_pay107 (k0_pay103 ya yb w0 w1) x g b

/-- A tile from its two halves, entry by entry. -/
theorem mixTile_at (ya yb : FVec Ideal S256x512 .f32) (w0 w1 : Vec Ideal S1x512x1024 .bf16) (x : Vec Ideal S256x1024 .f32)
    (g b : Vec Ideal S1x1x1024 .f32) (wo : Fin 1024 → Fin 1024 → EReal)
    (h0 : ∀ (k : Fin 512) n, w0 (ix3 0 k n) = wo ⟨k, by omega⟩ n) (h1 : ∀ (k : Fin 512) n, w1 (ix3 0 k n) = wo ⟨512 + k, by omega⟩ n)
    (r : Fin 256) (c : Fin 1024) : mixTile ya yb w0 w1 x g b (ix2 r c)
      = mixRow (fun k => x (ix2 r k)) (fun k => ya (ix2 r k)) (fun k => yb (ix2 r k)) wo (fun k => g (ix3 0 0 k)) (fun k => b (ix3 0 0 k)) c := by
  unfold mixRow
  simp only [← h0, ← h1]
  pointwise [mixTile, k0_pay107, k0_pay103, layerNorm, mean, variance, deep]

end Cert.EvenIdeal.Even
-- ==== Proof.EvenTiles.lean ====
module

public import proofs.«01_k».proof.Proof.EvenPure
public import Idealize.ShloMosaic.Lib.Pipeline.ValueKit
public import Idealize.ShloMosaic.Lib.Pipeline.ReadBack

@[expose] public section

set_option maxRecDepth 16384

noncomputable section

/-! One grid point of the mixer kernel: the array of extended rows it keeps, and the four tiles of 256 rows. -/

namespace Cert.EvenIdeal.Even

open Cert.EvenIdeal Cert.EvenIdeal.Gen Idealize.ShloMosaic Idealize.ShloMosaic.TcCoe Idealize.SL.Sem
open Idealize.ShloMosaic.Pipeline (Dat)
open Cert.Trunk

section tiles

variable (a : BitVec 32) (h : FVec Ideal S256x1536 .f32) (e : Vec Ideal S272x512 .f32) (p0 p1 : Vec Ideal S1x1x256x256 .bf16)
    (sc g b : Vec Ideal S1x1x512 .f32) (s0 s1 s2 s3 : Vec Ideal S1x1x128x128 .f32) (b0 b1 b2 b3 : Vec Ideal S1x128x1 .f32)
    (w0 w1 : Vec Ideal S1x512x1024 .bf16) (x : Vec Ideal S256x1024 .f32) (lg lb : Vec Ideal S1x1x1024 .f32)

/-- The first tile's pooling. -/
theorem first_pool : k0_pay22 h e (k0_pay18 a) (k0_pay19 a h e) (k0_pay20 a h e) (k0_pay21 e) p0 p1 sc
    = poolTile (k0_pay18 a) h e p0 p1 sc := rfl

/-- The second tile's pooling. -/
theorem second_pool : k0_pay44 h e (k0_pay40 a) (k0_pay41 a h e) (k0_pay42 a h e) (k0_pay43 e) p0 p1 sc
    = poolTile (k0_pay40 a) h e p0 p1 sc := rfl

/-- The third tile's pooling. -/
theorem third_pool :
    k0_pay66 h e (k0_pay62 a) (k0_pay63 a h e) (k0_pay64 a h e) (k0_pay65 e) (Scalar.ofBits .f32 0x41000000#32) p0 p1 sc
      = poolTile (k0_pay62 a) h e p0 p1 sc := rfl

/-- The fourth tile's pooling. -/
theorem fourth_pool : k0_pay87 h e (k0_pay82 a) (k0_pay83 a h e) (k0_pay84 a h e) (k0_pay85 e) k0_pay86 p0 p1 sc
    = poolTile (k0_pay82 a) h e p0 p1 sc := rfl

/-- The second tile's gating. -/
theorem second_gate :
    k0_pay61 (k0_pay47 (k0_pay45 h) (k0_pay46 h) (Scalar.ofBits .f32 1027024659#32))
      (k0_pay53 (k0_pay13 s0) (k0_pay48 g) (k0_pay49 b) (k0_pay50 h) (k0_pay51 h) b0)
      (k0_pay54 (k0_pay14 s1) (k0_pay48 g) (k0_pay49 b) (k0_pay50 h) (k0_pay51 h) b1)
      (k0_pay55 (k0_pay15 s2) (k0_pay48 g) (k0_pay49 b) (k0_pay50 h) (k0_pay51 h) b2)
      (k0_pay56 (k0_pay17 k0_pay16 s3) (k0_pay48 g) (k0_pay49 b) (k0_pay50 h) (k0_pay51 h) b3)
      (k0_pay57 (k0_pay13 s0) (k0_pay48 g) (k0_pay49 b) (k0_pay50 h) (k0_pay51 h) b0)
      (k0_pay58 (k0_pay14 s1) (k0_pay48 g) (k0_pay49 b) (k0_pay50 h) (k0_pay51 h) b1)
      (k0_pay59 (k0_pay15 s2) (k0_pay48 g) (k0_pay49 b) (k0_pay50 h) (k0_pay51 h) b2)
      (k0_pay60 (k0_pay17 k0_pay16 s3) (k0_pay48 g) (k0_pay49 b) (k0_pay50 h) (k0_pay51 h) b3)
    = gateTile h g b s0 s1 s2 s3 b0 b1 b2 b3 := rfl

/-- The third tile's gating. -/
theorem third_gate :
    k0_pay81 (k0_pay70 (k0_pay67 h) (k0_pay68 h) k0_pay69)
      (k0_pay76 (k0_pay13 s0) (k0_pay71 g) (k0_pay72 b) (k0_pay73 h) (k0_pay74 h) b0)
      (k0_pay77 (k0_pay14 s1) (k0_pay71 g) (k0_pay72 b) (k0_pay73 h) (k0_pay74 h) b1)
      (k0_pay78 (k0_pay15 s2) (k0_pay71 g) (k0_pay72 b) (k0_pay73 h) (k0_pay74 h) b2)
      (k0_pay79 (k0_pay17 k0_pay16 s3) (k0_pay71 g) (k0_pay72 b) (k0_pay73 h) (k0_pay74 h) b3)
      (k0_pay80 (k0_pay13 s0) (k0_pay14 s1) (k0_pay15 s2) (k0_pay17 k0_pay16 s3) (k0_pay71 g) (k0_pay72 b)
        (k0_pay73 h) (k0_pay74 h) b0 b1 b2 b3)
    = gateTile h g b s0 s1 s2 s3 b0 b1 b2 b3 := rfl

/-- The fourth tile's gating. -/
theorem fourth_gate :
    k0_pay102 (k0_pay90 (k0_pay88 h) (k0_pay89 h))
      (k0_pay97 (k0_pay14 s1) (k0_pay91 g) (k0_pay92 b) (k0_pay93 h) (k0_pay94 h) b1)
      (k0_pay98 (k0_pay15 s2) (k0_pay91 g) (k0_pay92 b) (k0_pay93 h) (k0_pay94 h) b2)
      (k0_pay99 (k0_pay17 k0_pay16 s3) (k0_pay91 g) (k0_pay92 b) (k0_pay93 h) (k0_pay94 h) b3)
      (k0_pay100 (k0_pay13 s0) (k0_pay14 s1) (k0_pay15 s2) (k0_pay17 k0_pay16 s3) (k0_pay91 g) (k0_pay92 b)
        (k0_pay93 h) (k0_pay94 h) b0 b1 b2 b3)
      (k0_pay101 (k0_pay13 s0) (k0_pay91 g) (k0_pay92 b) (k0_pay93 h) (k0_pay94 h) b0)
    = gateTile h g b s0 s1 s2 s3 b0 b1 b2 b3 := rfl

variable (ya yb : FVec Ideal S256x512 .f32)

/-- The second tile's last steps. -/
theorem second_mix : k0_pay108 (k0_pay104 ya yb w0 w1) x lg lb = mixTile ya yb w0 w1 x lg lb := rfl

/-- The third tile's last steps. -/
theorem third_mix : k0_pay110 (k0_pay109 (k0_pay105 ya yb w0 w1) x) lg lb = mixTile ya yb w0 w1 x lg lb := rfl

/-- The fourth tile's last steps. -/
theorem fourth_mix : k0_pay1 (k0_pay111 (k0_pay106 ya yb w0 w1) x) (k0_pay112 lg) (k0_pay113 lb) (k0_pay114 (k0_pay106 ya yb w0 w1) x)
    = mixTile ya yb w0 w1 x lg lb := rfl

/-- The projections of the four tiles are the same function of the rows. -/
theorem same_rows (w : Vec Ideal S1x1024x1536 .bf16) : k0_pay5 x w = k0_pay4 x w ∧ k0_pay6 x w = k0_pay4 x w ∧ k0_pay7 x w = k0_pay4 x w :=
  ⟨rfl, rfl, rfl⟩

/-- The projected rows, entry by entry. -/
theorem rows_at (w : Vec Ideal S1x1024x1536 .bf16) (r : Fin 256) (n : Fin 1536) :
    k0_pay4 x w (ix2 r n) = project (fun k => x (ix2 r k)) (fun k n => w (ix3 0 k n)) n := by
  pointwise [k0_pay4, project]

/-- The position of row `n` of block `a`, counted from one, as a real. -/
def place (n : ℕ) : EReal := FloatOps.sitofp (F := Ideal) .f32 (a * 1024#32 + BitVec.ofNat 32 n + 1#32)

/-- The kernel's order of adding up a position. -/
theorem place_word (o : BitVec 32) (n : ℕ) : IntOp.addi (Scalar.addi (Scalar.addi (Scalar.muli a 1024#32) o) 1#32) (BitVec.ofNat 32 n)
    = a * 1024#32 + BitVec.ofNat 32 (o.toNat + n) + 1#32 := by
  show a * 1024#32 + o + 1#32 + BitVec.ofNat 32 n = _
  rw [BitVec.ofNat_add, BitVec.ofNat_toNat, BitVec.setWidth_eq]
  ac_rfl

/-- The positions of the four tiles. -/
theorem place_at (r : Fin 256) : (k0_pay18 a : FVec Ideal S256x1 .f32) (ix2 r 0) = place a r
    ∧ (k0_pay40 a : FVec Ideal S256x1 .f32) (ix2 r 0) = place a (256 + r)
    ∧ (k0_pay62 a : FVec Ideal S256x1 .f32) (ix2 r 0) = place a (512 + r)
    ∧ (k0_pay82 a : FVec Ideal S256x1 .f32) (ix2 r 0) = place a (768 + r) := by
  refine ⟨?_, ?_, ?_, ?_⟩
  · pointwise [k0_pay18, place]; rw [place_word, show (0#32).toNat + r.val = r.val from Nat.zero_add _]
  · pointwise [k0_pay40, place]; rw [place_word]; rfl
  · pointwise [k0_pay62, place]; rw [place_word]; rfl
  · pointwise [k0_pay82, place]; rw [place_word]; rfl

end tiles

/-- A load of the rows `o ..` of a block, at an index, is the block at that row. -/
theorem load_rows (x0 : Vec Ideal S1024x1024 .f32) (o : ℕ) (h : ∀ a, (![o, 0] : Fin 2 → ℕ) a + (![256, 1024] : Fin 2 → ℕ) a ≤ S1024x1024.size a)
    (r : Fin 256) (k : Fin 1024) (i : Fin 1024) (hi : i.val = o + r) :
    View.ld x0 (Rect.unit ![o, 0] ![256, 1024] h) (ix2 r k) = x0 (ix2 i k) :=
  View.ld_unit_apply_of _ _ _ _ _ _ (Fin.forall_fin_two.2 ⟨by simp [hi], by simp⟩)

variable (halo : Vec Ideal S1040x512 .f32) (x0 : Vec Ideal S1024x1024 .f32) (x1 : Vec Ideal S1x1024x1536 .bf16)

/-- The projected row `r` of a block. -/
def rowOf (r : Fin 1024) (n : Fin 1536) : EReal := project (fun k => x0 (ix2 r k)) (fun k n => x1 (ix3 0 k n)) n

/-- The kept array of a block once its rows are stored: sixteen rows of the block before, then the block's own rows. -/
def extended : Vec Ideal S1040x512 .f32 := fun y =>
  if hy : (y 0).val < 16 then halo y
  else rowOf x0 x1 ⟨(y 0).val - 16, by have := (y 0).isLt; change (y 0).val < 1040 at this; omega⟩ ⟨(y 1).val, by have := (y 1).isLt; change (y 1).val < 512 at this; omega⟩

/-- The kept array beyond its first sixteen rows. -/
theorem extended_late (n : Fin 1040) (c : Fin 512) (i : Fin 1024) (h : n.val = 16 + i) :
    extended halo x0 x1 (ix2 n c) = rowOf x0 x1 i ⟨c, by omega⟩ := by
  unfold extended
  rw [dif_neg (by show ¬ n.val < 16; omega)]
  exact congrArg (fun i => rowOf x0 x1 i _) (Fin.ext (by show n.val - 16 = i.val; omega))

/-- The first sixteen rows of the kept array. -/
theorem extended_early (n : Fin 1040) (c : Fin 512) (h : n.val < 16) : extended halo x0 x1 (ix2 n c) = halo (ix2 n c) := by
  unfold extended
  exact dif_pos h

/-- A tile's stored rows are that part of the kept array. -/
theorem piece_extended (o : ℕ) (hb : ∀ a, (![16 + o, 0] : Fin 2 → ℕ) a + (![256, 512] : Fin 2 → ℕ) a ≤ S1040x512.size a)
    (h0 : ∀ a, (![o, 0] : Fin 2 → ℕ) a + (![256, 1024] : Fin 2 → ℕ) a ≤ S1024x1024.size a)
    (p : FVec Ideal S256x512 .f32) (hp : p = k0_pay9 (k0_pay8 (View.ld x0 (Rect.unit ![o, 0] ![256, 1024] h0)) x1)) (x : S256x512.Idx) :
    p x = extended halo x0 x1 ((Rect.unit (s := S1040x512) ![16 + o, 0] ![256, 512] hb).emb x) := by
  subst hp
  obtain ⟨r, j, rfl⟩ : ∃ (r : Fin 256) (j : Fin 512), x = ix2 r j := ⟨x 0, x 1, by ext a; match a with | 0 => rfl | 1 => rfl⟩
  have ho : o + 256 ≤ 1024 := by simpa using h0 0
  have e : k0_pay9 (k0_pay8 (View.ld x0 (Rect.unit ![o, 0] ![256, 1024] h0)) x1) (ix2 r j)
      = k0_pay4 (View.ld x0 (Rect.unit ![o, 0] ![256, 1024] h0)) x1 (ix2 r ⟨j, by omega⟩) := by
    pointwise [k0_pay9, k0_pay8]
  rw [e, rows_at]
  unfold extended rowOf
  rw [dif_neg (by simp; omega)]
  refine (project_congr (fun k => load_rows x0 o h0 r k ⟨o + r, by omega⟩ rfl) (fun _ _ => rfl)).trans ?_
  congr 1
  · funext k
    exact congrArg (fun i => x0 (ix2 i k)) (Fin.ext (by simp; omega))
  · exact Fin.ext (by simp)

/-- The stores of the list hold, between them, the rows `o ..` of the kept array, sixteen by sixteen. -/
def coversRows (o : ℕ) (n : ℕ) (L : List (View.Piece (Elt Ideal) S1040x512 .f32)) : Bool :=
  (List.range n).all fun c => L.any fun p =>
    Nat.ble (p.1.off 0) (o + 16 * c) && Nat.ble (o + 16 * c + 16) (p.1.off 0 + p.1.size 0) && p.1.off 1 == 0 && p.1.size 1 == 512
      && p.1.stride 0 == 1 && p.1.stride 1 == 1

/-- So they hold every index of those rows. -/
theorem covered (o n : ℕ) (L : List (View.Piece (Elt Ideal) S1040x512 .f32)) (h : coversRows o n L = true) (y : S1040x512.Idx)
    (h0 : o ≤ (y 0).val ∧ (y 0).val < o + 16 * n) : ∃ p ∈ L, y ∈ p.1.set := by
  have hy : (y 1).val < 512 := (y 1).isLt
  have hc := List.all_eq_true.1 h (((y 0).val - o) / 16) (List.mem_range.2 (by omega))
  obtain ⟨p, hp, hq⟩ := List.any_eq_true.1 hc
  simp only [Bool.and_eq_true, beq_iff_eq, Nat.ble_eq] at hq
  obtain ⟨⟨⟨⟨⟨a, b⟩, c⟩, d⟩, e⟩, f⟩ := hq
  refine ⟨p, hp, p.1.toLoadRect.mem_set.2 (Fin.forall_fin_two.2 ⟨⟨(y 0).val - p.1.off 0, ?_, ?_⟩, ⟨(y 1).val, ?_, ?_⟩⟩)⟩
  · omega
  · rw [e]; omega
  · rw [d]; omega
  · rw [c, f]; omega

/-- A load of `s` rows of the kept array after stores that hold them. -/
theorem load_covered (v : View sig .tc .vmem S1040x512 .f32) (o s n : ℕ) (hs : s ≤ 16 * n)
    (hb : ∀ a, (![o, 0] : Fin 2 → ℕ) a + (![s, 512] : Fin 2 → ℕ) a ≤ S1040x512.size a)
    (L : List (View.Piece (Elt Ideal) S1040x512 .f32)) (hL : View.PiecesOf (extended halo x0 x1) L) (hc : coversRows o n L = true)
    (r : Fin s) (j : Fin 512) :
    v.readCov L (Rect.unit (s := S1040x512) ![o, 0] ![s, 512] hb).toLoadRect (ix2 r j)
      = extended halo x0 x1 (ix2 ⟨o + r, by have := hb 0; simp at this; omega⟩ j) := by
  rw [View.readCov_eq_canon']
  have h := View.canon_append_of_piecesOf (extended halo x0 x1) [] L hL
    ((Rect.unit (s := S1040x512) ![o, 0] ![s, 512] hb).toLoadRect.idx (ix2 r j)) (covered o n L hc _ (by simp; omega))
  rw [List.append_nil] at h
  refine h.trans (congrArg _ ?_)
  ext a
  match a with
  | 0 => simp
  | 1 => simp

/-- The kept array after the stores of a block, over what it held before. -/
theorem kept (hw : (Memref.whole (sig := sig) cc0_scratch0).IsWhole)
    (L : List (View.Piece (Elt Ideal) S1040x512 .f32)) (hL : View.PiecesOf (extended halo x0 x1) L) (hc : coversRows 16 64 L = true)
    (hn : ∀ p ∈ L, 16 ≤ p.1.off 0) (y : S1040x512.Idx) :
    View.read (Elt Ideal) (View.whole cc0_scratch0) ((View.whole cc0_scratch0).writes (Elt Ideal) (hw.unread halo) L) y
      = extended halo x0 x1 y := by
  by_cases hy : (y 0).val < 16
  · rw [View.read_writes_apply_of_forall_not_mem _ _ y L, read_unread_whole]
    · unfold extended; rw [dif_pos hy]
    · intro p hp hm
      obtain ⟨j, hj, e⟩ := p.1.mem_set.mp hm 0
      have := hn p hp
      omega
  · have := (y 0).isLt
    change (y 0).val < 1040 at this
    exact View.read_writes_apply_of_pieces _ _ _ L hL.mem y (covered 16 64 L hc y (by omega))

/-- What a grid point stores in row `n` of its block, from the kept array `kept`. -/
def blockRow (a : BitVec 32) (kept : Vec Ideal S1040x512 .f32) (x2 : Vec Ideal S1x1024x1024 .bf16)
    (w : Fin 4 → Fin 128 → Fin 128 → EReal) (x4 x5 x6 : Vec Ideal S1x1x512 .f32) (x7 : Vec Ideal S1x4x128x128 .f32)
    (x8 : Vec Ideal S1x128x4 .f32) (x9 x10 : Vec Ideal S1x1x1024 .f32) (n : Fin 1024) : Fin 1024 → EReal :=
  evenRow (fun k => x0 (ix2 n k)) (place a n) (fun j c => kept (ix2 ⟨n + 16 - j, by omega⟩ c)) (rowOf x0 x1 n)
    (fun s => rowOf x0 x1 ⟨n / 128 * 128 + s, by omega⟩) ⟨n % 128, Nat.mod_lt _ (by decide)⟩ w (fun k => x4 (ix3 0 0 k)) (fun k => x5 (ix3 0 0 k))
    (fun k => x6 (ix3 0 0 k)) (fun i r s => x7 (ix4 0 i r s)) (fun i r => x8 (ix3 0 r i)) (fun k c => x2 (ix3 0 k c))
    (fun k => x9 (ix3 0 0 k)) (fun k => x10 (ix3 0 0 k))

/-- A load of one head's matrix. -/
theorem load_head (x7 : Vec Ideal S1x4x128x128 .f32) (i : Fin 4)
    (hb : ∀ a, (![0, i.val, 0, 0] : Fin 4 → ℕ) a + (![1, 1, 128, 128] : Fin 4 → ℕ) a ≤ S1x4x128x128.size a) (r s : Fin 128) :
    View.ld x7 (Rect.unit ![0, i.val, 0, 0] ![1, 1, 128, 128] hb) (ix4 0 0 r s) = x7 (ix4 0 i r s) :=
  View.ld_unit_apply_of _ _ _ _ _ _ (by simp [Fin.forall_fin_succ])

/-- A load of one head's biases. -/
theorem load_bias (x8 : Vec Ideal S1x128x4 .f32) (i : Fin 4)
    (hb : ∀ a, (![0, 0, i.val] : Fin 3 → ℕ) a + (![1, 128, 1] : Fin 3 → ℕ) a ≤ S1x128x4.size a) (r : Fin 128) :
    View.ld x8 (Rect.unit ![0, 0, i.val] ![1, 128, 1] hb) (ix3 0 r 0) = x8 (ix3 0 r i) :=
  View.ld_unit_apply_of _ _ _ _ _ _ (by simp [Fin.forall_fin_succ])

/-- A load of two groups' matrices. -/
theorem load_pool (x3 : Vec Ideal S1x2x256x256 .bf16) (i : Fin 2)
    (hb : ∀ a, (![0, i.val, 0, 0] : Fin 4 → ℕ) a + (![1, 1, 256, 256] : Fin 4 → ℕ) a ≤ S1x2x256x256.size a) (k n : Fin 256) :
    View.ld x3 (Rect.unit ![0, i.val, 0, 0] ![1, 1, 256, 256] hb) (ix4 0 0 k n) = x3 (ix4 0 i k n) :=
  View.ld_unit_apply_of _ _ _ _ _ _ (by simp [Fin.forall_fin_succ])

/-- A load of half of the output matrix. -/
theorem load_out (x2 : Vec Ideal S1x1024x1024 .bf16) (o : ℕ)
    (hb : ∀ a, (![0, o, 0] : Fin 3 → ℕ) a + (![1, 512, 1024] : Fin 3 → ℕ) a ≤ S1x1024x1024.size a) (k : Fin 512) (n : Fin 1024)
    (i : Fin 1024) (hi : i.val = o + k) : View.ld x2 (Rect.unit ![0, o, 0] ![1, 512, 1024] hb) (ix3 0 k n) = x2 (ix3 0 i n) :=
  View.ld_unit_apply_of _ _ _ _ _ _ (by simp [Fin.forall_fin_succ, hi])

/-- Two chunks make a tile. -/
theorem half_lt (half : Fin 2) (t : Fin 128) : half.val * 128 + t.val < 256 := by omega

/-- A row of a tile is a row of one of its two chunks. -/
theorem halves (r : Fin 256) : ∃ (half : Fin 2) (t : Fin 128), r = ⟨half * 128 + t, half_lt half t⟩ :=
  ⟨⟨r / 128, by omega⟩, ⟨r % 128, Nat.mod_lt _ (by decide)⟩, Fin.ext (by show r.val = r.val / 128 * 128 + r.val % 128; omega)⟩

/-- The tile of the rows `o ..`, entry by entry. -/
theorem tile_row (a : BitVec 32) (kept : Vec Ideal S1040x512 .f32) (x2 : Vec Ideal S1x1024x1024 .bf16) (x3 : Vec Ideal S1x2x256x256 .bf16)
    (w : Fin 4 → Fin 128 → Fin 128 → EReal) (hw : ∀ i k n, x3 (ix4 0 i k n) = blocks w i k n)
    (x4 x5 x6 : Vec Ideal S1x1x512 .f32) (x7 : Vec Ideal S1x4x128x128 .f32)
    (x8 : Vec Ideal S1x128x4 .f32) (x9 x10 : Vec Ideal S1x1x1024 .f32)
    (o : ℕ) (ho : o % 128 = 0) (h0 : ∀ a, (![o, 0] : Fin 2 → ℕ) a + (![256, 1024] : Fin 2 → ℕ) a ≤ S1024x1024.size a)
    (pos : FVec Ideal S256x1 .f32) (e : Vec Ideal S272x512 .f32)
    (hpos : ∀ r : Fin 256, pos (ix2 r 0) = place a (o + r))
    (he : ∀ (i : Fin 272) (j : Fin 512), e (ix2 i j) = kept (ix2 ⟨o + i, by have := h0 0; simp at this; omega⟩ j))
    (p0 p1 : Vec Ideal S1x1x256x256 .bf16) (s0 s1 s2 s3 : Vec Ideal S1x1x128x128 .f32) (b0 b1 b2 b3 : Vec Ideal S1x128x1 .f32)
    (w0 w1 : Vec Ideal S1x512x1024 .bf16)
    (hp0 : ∀ k n, p0 (ix4 0 0 k n) = x3 (ix4 0 0 k n)) (hp1 : ∀ k n, p1 (ix4 0 0 k n) = x3 (ix4 0 1 k n))
    (hs0 : ∀ r k, s0 (ix4 0 0 r k) = x7 (ix4 0 0 r k)) (hs1 : ∀ r k, s1 (ix4 0 0 r k) = x7 (ix4 0 1 r k))
    (hs2 : ∀ r k, s2 (ix4 0 0 r k) = x7 (ix4 0 2 r k)) (hs3 : ∀ r k, s3 (ix4 0 0 r k) = x7 (ix4 0 3 r k))
    (hb0 : ∀ r, b0 (ix3 0 r 0) = x8 (ix3 0 r 0)) (hb1 : ∀ r, b1 (ix3 0 r 0) = x8 (ix3 0 r 1))
    (hb2 : ∀ r, b2 (ix3 0 r 0) = x8 (ix3 0 r 2)) (hb3 : ∀ r, b3 (ix3 0 r 0) = x8 (ix3 0 r 3))
    (hw0 : ∀ (k : Fin 512) n, w0 (ix3 0 k n) = x2 (ix3 0 ⟨k, by omega⟩ n))
    (hw1 : ∀ (k : Fin 512) n, w1 (ix3 0 k n) = x2 (ix3 0 ⟨512 + k, by omega⟩ n))
    (r : Fin 256) (c : Fin 1024) (n : Fin 1024) (hn : n.val = o + r) :
    mixTile (poolTile pos (k0_pay4 (View.ld x0 (Rect.unit ![o, 0] ![256, 1024] h0)) x1) e p0 p1 x4)
        (gateTile (k0_pay4 (View.ld x0 (Rect.unit ![o, 0] ![256, 1024] h0)) x1) x5 x6 s0 s1 s2 s3 b0 b1 b2 b3) w0 w1
        (View.ld x0 (Rect.unit ![o, 0] ![256, 1024] h0)) x9 x10 (ix2 r c)
      = blockRow x0 x1 a kept x2 w x4 x5 x6 x7 x8 x9 x10 n c := by
  have hrow : ∀ (r : Fin 256) (i : Fin 1024) (k : Fin 1536), i.val = o + r →
      k0_pay4 (View.ld x0 (Rect.unit ![o, 0] ![256, 1024] h0)) x1 (ix2 r k) = rowOf x0 x1 i k := fun r i k hi =>
    (rows_at _ _ r k).trans (project_congr (fun k => load_rows x0 o h0 r k i hi) fun _ _ => rfl)
  rw [mixTile_at _ _ _ _ _ _ _ (fun k n => x2 (ix3 0 k n)) hw0 hw1]
  obtain ⟨half, t, rfl⟩ := halves r
  have hn' : n.val = o + (half * 128 + t) := hn
  rw [funext fun k => poolTile_at pos _ e p0 p1 x4 w (fun k n => (hp0 k n).trans (hw 0 k n)) (fun k n => (hp1 k n).trans (hw 1 k n)) _ k,
    funext fun k => gateTile_at _ x5 x6 s0 s1 s2 s3 b0 b1 b2 b3 (fun i r s => x7 (ix4 0 i r s)) (fun i r => x8 (ix3 0 r i))
      hs0 hs1 hs2 hs3 hb0 hb1 hb2 hb3 half t k]
  refine evenRow_congr (h := fun k => k0_pay4 (View.ld x0 (Rect.unit ![o, 0] ![256, 1024] h0)) x1 (ix2 ⟨half * 128 + t, by omega⟩ k))
    (chunk := fun s k => k0_pay4 (View.ld x0 (Rect.unit ![o, 0] ![256, 1024] h0)) x1 (ix2 ⟨half * 128 + s, by omega⟩ k))
    (fun k => load_rows x0 o h0 _ k n hn) ?_ (fun j hj c => ?_) (fun k => hrow _ n k hn) (fun s k => hrow _ _ k ?_) (Fin.ext ?_)
    (fun _ _ _ => rfl) (fun _ => rfl) (fun _ => rfl) (fun _ => rfl) (fun _ _ _ => rfl) (fun _ _ => rfl) (fun _ _ => rfl) (fun _ => rfl) (fun _ => rfl) rfl
  · rw [hpos, hn]
  · refine (he _ c).trans (congrArg (fun i => kept (ix2 i c)) (Fin.ext ?_))
    show o + (half.val * 128 + t.val + 16 - j) = n.val + 16 - j
    omega
  · show n.val / 128 * 128 + s.val = o + (half.val * 128 + s.val)
    omega
  · show t.val = n.val % 128
    omega

/-- The zeros stored at the first block of a sequence. -/
theorem piece_zero (hb : ∀ a, (![0, 0] : Fin 2 → ℕ) a + (![16, 512] : Fin 2 → ℕ) a ≤ S1040x512.size a) (x : S16x512.Idx) :
    (k0_pay3 : FVec Ideal S16x512 .f32) x = extended (fun _ => 0) x0 x1 ((Rect.unit (s := S1040x512) ![0, 0] ![16, 512] hb).emb x) := by
  unfold extended
  rw [dif_pos (by have h : (x 0).val < 16 := (x 0).isLt; simpa using h)]
  exact Ideal.ofBits_zero .f32

/-- The tile of the rows `o ..` with the weights as the kernel loads them. -/
theorem tile_loads (a : BitVec 32) (kept : Vec Ideal S1040x512 .f32) (x2 : Vec Ideal S1x1024x1024 .bf16) (x3 : Vec Ideal S1x2x256x256 .bf16)
    (w : Fin 4 → Fin 128 → Fin 128 → EReal) (hw : ∀ i k n, x3 (ix4 0 i k n) = blocks w i k n)
    (x4 x5 x6 : Vec Ideal S1x1x512 .f32) (x7 : Vec Ideal S1x4x128x128 .f32)
    (x8 : Vec Ideal S1x128x4 .f32) (x9 x10 : Vec Ideal S1x1x1024 .f32)
    (o : ℕ) (ho : o % 128 = 0) (h0 : ∀ a, (![o, 0] : Fin 2 → ℕ) a + (![256, 1024] : Fin 2 → ℕ) a ≤ S1024x1024.size a)
    (pos : FVec Ideal S256x1 .f32) (e : Vec Ideal S272x512 .f32)
    (hpos : ∀ r : Fin 256, pos (ix2 r 0) = place a (o + r))
    (he : ∀ (i : Fin 272) (j : Fin 512), e (ix2 i j) = kept (ix2 ⟨o + i, by have := h0 0; simp at this; omega⟩ j))
    (r : Fin 256) (c : Fin 1024) (n : Fin 1024) (hn : n.val = o + r) :
    mixTile (poolTile pos (k0_pay4 (View.ld x0 (Rect.unit ![o, 0] ![256, 1024] h0)) x1) e
          (View.ld x3 (Rect.unit ![0, 0, 0, 0] ![1, 1, 256, 256] (by decide))) (View.ld x3 (Rect.unit ![0, 1, 0, 0] ![1, 1, 256, 256] (by decide))) x4)
        (gateTile (k0_pay4 (View.ld x0 (Rect.unit ![o, 0] ![256, 1024] h0)) x1) x5 x6
          (View.ld x7 (Rect.unit ![0, 0, 0, 0] ![1, 1, 128, 128] (by decide))) (View.ld x7 (Rect.unit ![0, 1, 0, 0] ![1, 1, 128, 128] (by decide)))
          (View.ld x7 (Rect.unit ![0, 2, 0, 0] ![1, 1, 128, 128] (by decide))) (View.ld x7 (Rect.unit ![0, 3, 0, 0] ![1, 1, 128, 128] (by decide)))
          (View.ld x8 (Rect.unit ![0, 0, 0] ![1, 128, 1] (by decide))) (View.ld x8 (Rect.unit ![0, 0, 1] ![1, 128, 1] (by decide)))
          (View.ld x8 (Rect.unit ![0, 0, 2] ![1, 128, 1] (by decide))) (View.ld x8 (Rect.unit ![0, 0, 3] ![1, 128, 1] (by decide))))
        (View.ld x2 (Rect.unit ![0, 0, 0] ![1, 512, 1024] (by decide))) (View.ld x2 (Rect.unit ![0, 512, 0] ![1, 512, 1024] (by decide)))
        (View.ld x0 (Rect.unit ![o, 0] ![256, 1024] h0)) x9 x10 (ix2 r c)
      = blockRow x0 x1 a kept x2 w x4 x5 x6 x7 x8 x9 x10 n c :=
  tile_row x0 x1 a kept x2 x3 w hw x4 x5 x6 x7 x8 x9 x10 o ho h0 pos e hpos he _ _ _ _ _ _ _ _ _ _ _ _
    (load_pool x3 0 (by decide)) (load_pool x3 1 (by decide)) (load_head x7 0 (by decide)) (load_head x7 1 (by decide))
    (load_head x7 2 (by decide)) (load_head x7 3 (by decide)) (load_bias x8 0 (by decide)) (load_bias x8 1 (by decide))
    (load_bias x8 2 (by decide)) (load_bias x8 3 (by decide)) (fun k n => load_out x2 0 (by decide) k n _ (Nat.zero_add _).symm)
    (fun k n => load_out x2 512 (by decide) k n _ rfl) r c n hn

end Cert.EvenIdeal.Even
-- ==== Proof.EvenBlock.lean ====
module

public import proofs.«01_k».proof.Proof.EvenTiles
public import proofs.«01_k».proof.Proof.Gen.EvenIdeal.Value
public import Idealize.ShloMosaic.Lib.Claim
public import Idealize.ShloMosaic.Lib.Pipeline.ValueKit
public import Idealize.ShloMosaic.Lib.Pipeline.ReadBack

@[expose] public section

set_option maxRecDepth 16384

noncomputable section

/-! What one grid point of the mixer kernel stores, row by row. -/

namespace Cert.EvenIdeal.Even

open Cert.EvenIdeal Cert.EvenIdeal.Gen Idealize.ShloMosaic Idealize.ShloMosaic.TcCoe Idealize.SL.Sem
open Idealize.ShloMosaic.Pipeline (Dat)
open Cert.Trunk

set_option maxHeartbeats 4000000 in
/-- What a grid point at the first block of a sequence stores. -/
theorem out_at_A (c : Dev nD) (t : Fin cfg0.N) (hc : cond0_0 (grid0.coords t)) (x0 : Vec Ideal S1024x1024 .f32) (x1 : Vec Ideal S1x1024x1536 .bf16)
    (x2 : Vec Ideal S1x1024x1024 .bf16) (x3 : Vec Ideal S1x2x256x256 .bf16) (x4 x5 x6 : Vec Ideal S1x1x512 .f32)
    (x7 : Vec Ideal S1x4x128x128 .f32) (x8 : Vec Ideal S1x128x4 .f32) (x9 x10 : Vec Ideal S1x1x1024 .f32)
    (w : Fin 4 → Fin 128 → Fin 128 → EReal) (hw : ∀ i k n, x3 (ix4 0 i k n) = blocks w i k n) (y : S1024x1024.Idx) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc x0 x1 x2 x3 x4 x5 x6 x7 x8 x9 x10 y
      = blockRow x0 x1 (BitVec.ofNat 32 (grid0.coords t 1)) (extended (fun _ => 0) x0 x1) x2 w x4 x5 x6 x7 x8 x9 x10 (y 0) (y 1) := by
  frame_open
  simp (disch := decide) only [↓ View.readCov_skip, ↓ View.readCov_cons_toLoadRect, ↓ View.readCov_fill]
  frame_out
  canon_tiles x h
  all_goals
    obtain ⟨r, n, rfl⟩ : ∃ (r : Fin 256) (n : Fin 1024), x = ix2 r n := ⟨x 0, x 1, by ext a; match a with | 0 => rfl | 1 => rfl⟩
    have e1 : y 1 = n := Fin.ext h1
    rw [e1]
  · rw [fourth_mix, fourth_pool, fourth_gate, (same_rows _ _).2.2]
    refine tile_loads x0 x1 _ _ x2 x3 w hw x4 x5 x6 x7 x8 x9 x10 768 rfl (by decide) _ _ (fun r => (place_at _ r).2.2.2) ?_ r n (y 0) h0
    intro i j
    refine load_covered _ x0 x1 _ _ 272 17 (by decide) _ _ ?_ (by rfl) i j
    repeat' first
          | exact trivial
          | refine And.intro (piece_extended _ x0 x1 _ (by decide) (by decide) _ rfl) ?_
          | exact And.intro (piece_zero x0 x1 (by decide)) trivial
  · rw [third_mix, third_pool, third_gate, (same_rows _ _).2.1]
    refine tile_loads x0 x1 _ _ x2 x3 w hw x4 x5 x6 x7 x8 x9 x10 512 rfl (by decide) _ _ (fun r => (place_at _ r).2.2.1) ?_ r n (y 0) h0
    intro i j
    refine load_covered _ x0 x1 _ _ 272 17 (by decide) _ _ ?_ (by rfl) i j
    repeat' first
          | exact trivial
          | refine And.intro (piece_extended _ x0 x1 _ (by decide) (by decide) _ rfl) ?_
          | exact And.intro (piece_zero x0 x1 (by decide)) trivial
  · rw [second_mix, second_pool, second_gate, (same_rows _ _).1]
    refine tile_loads x0 x1 _ _ x2 x3 w hw x4 x5 x6 x7 x8 x9 x10 256 rfl (by decide) _ _ (fun r => (place_at _ r).2.1) ?_ r n (y 0) h0
    intro i j
    refine load_covered _ x0 x1 _ _ 272 17 (by decide) _ _ ?_ (by rfl) i j
    repeat' first
          | exact trivial
          | refine And.intro (piece_extended _ x0 x1 _ (by decide) (by decide) _ rfl) ?_
          | exact And.intro (piece_zero x0 x1 (by decide)) trivial
  · rw [first_pool]
    refine tile_loads x0 x1 _ _ x2 x3 w hw x4 x5 x6 x7 x8 x9 x10 0 rfl (by decide) _ _ (fun r => (place_at _ r).1.trans (congrArg _ (Nat.zero_add _).symm)) ?_ r n (y 0) (h0.trans (Nat.zero_add _).symm)
    intro i j
    refine load_covered _ x0 x1 _ _ 272 17 (by decide) _ _ ?_ (by rfl) i j
    repeat' first
          | exact trivial
          | refine And.intro (piece_extended _ x0 x1 _ (by decide) (by decide) _ rfl) ?_
          | exact And.intro (piece_zero x0 x1 (by decide)) trivial

set_option maxHeartbeats 4000000 in
/-- What a grid point after the first block of a sequence stores. -/
theorem out_at_B (c : Dev nD) (t : Fin cfg0.N) (hc : ¬cond0_0 (grid0.coords t)) (x0 : Vec Ideal S1024x1024 .f32) (x1 : Vec Ideal S1x1024x1536 .bf16)
    (x2 : Vec Ideal S1x1024x1024 .bf16) (x3 : Vec Ideal S1x2x256x256 .bf16) (x4 x5 x6 : Vec Ideal S1x1x512 .f32)
    (x7 : Vec Ideal S1x4x128x128 .f32) (x8 : Vec Ideal S1x128x4 .f32) (x9 x10 : Vec Ideal S1x1x1024 .f32) (xs : Vec Ideal S1040x512 .f32)
    (w : Fin 4 → Fin 128 → Fin 128 → EReal) (hw : ∀ i k n, x3 (ix4 0 i k n) = blocks w i k n) (y : S1024x1024.Idx) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc x0 x1 x2 x3 x4 x5 x6 x7 x8 x9 x10 xs y
      = blockRow x0 x1 (BitVec.ofNat 32 (grid0.coords t 1)) (extended xs x0 x1) x2 w x4 x5 x6 x7 x8 x9 x10 (y 0) (y 1) := by
  frame_open
  simp (disch := decide) only [↓ View.readCov_skip, ↓ View.readCov_cons_toLoadRect, ↓ View.readCov_fill]
  frame_out
  canon_tiles x h
  all_goals
    obtain ⟨r, n, rfl⟩ : ∃ (r : Fin 256) (n : Fin 1024), x = ix2 r n := ⟨x 0, x 1, by ext a; match a with | 0 => rfl | 1 => rfl⟩
    have e1 : y 1 = n := Fin.ext h1
    rw [e1]
  · rw [fourth_mix, fourth_pool, fourth_gate, (same_rows _ _).2.2]
    refine tile_loads x0 x1 _ _ x2 x3 w hw x4 x5 x6 x7 x8 x9 x10 768 rfl (by decide) _ _ (fun r => (place_at _ r).2.2.2) ?_ r n (y 0) h0
    intro i j
    refine load_covered xs x0 x1 _ _ 272 17 (by decide) _ _ ?_ (by rfl) i j
    repeat' first
          | exact trivial
          | refine And.intro (piece_extended _ x0 x1 _ (by decide) (by decide) _ rfl) ?_
  · rw [third_mix, third_pool, third_gate, (same_rows _ _).2.1]
    refine tile_loads x0 x1 _ _ x2 x3 w hw x4 x5 x6 x7 x8 x9 x10 512 rfl (by decide) _ _ (fun r => (place_at _ r).2.2.1) ?_ r n (y 0) h0
    intro i j
    refine load_covered xs x0 x1 _ _ 272 17 (by decide) _ _ ?_ (by rfl) i j
    repeat' first
          | exact trivial
          | refine And.intro (piece_extended _ x0 x1 _ (by decide) (by decide) _ rfl) ?_
  · rw [second_mix, second_pool, second_gate, (same_rows _ _).1]
    refine tile_loads x0 x1 _ _ x2 x3 w hw x4 x5 x6 x7 x8 x9 x10 256 rfl (by decide) _ _ (fun r => (place_at _ r).2.1) ?_ r n (y 0) h0
    intro i j
    refine load_covered xs x0 x1 _ _ 272 17 (by decide) _ _ ?_ (by rfl) i j
    repeat' first
          | exact trivial
          | refine And.intro (piece_extended _ x0 x1 _ (by decide) (by decide) _ rfl) ?_
  · rw [first_pool]
    refine tile_loads x0 x1 _ _ x2 x3 w hw x4 x5 x6 x7 x8 x9 x10 0 rfl (by decide) _ _ (fun r => (place_at _ r).1.trans (congrArg _ (Nat.zero_add _).symm)) ?_ r n (y 0) (h0.trans (Nat.zero_add _).symm)
    intro i j
    rw [View.ld_unit_apply_of _ _ _ _ _ (ix2 ⟨i, by omega⟩ j) (Fin.forall_fin_two.2 ⟨by simp, by simp⟩)]
    refine (kept xs x0 x1 _ _ ?_ (by rfl) ?_ _).trans (congrArg (fun i => extended xs x0 x1 (ix2 i j)) (Fin.ext (Nat.zero_add _).symm))
    · repeat' first
          | exact trivial
          | refine And.intro (piece_extended _ x0 x1 _ (by decide) (by decide) _ rfl) ?_
    · simp

/-- The first sixteen rows of the kept array. -/
theorem first_rows (hb : ∀ a, (![0, 0] : Fin 2 → ℕ) a + (![16, 512] : Fin 2 → ℕ) a ≤ S1040x512.size a) (r : Fin 16) (k : Fin 512) :
    (ix2 ⟨r, by omega⟩ k : S1040x512.Idx) = (Rect.unit (s := S1040x512) ![0, 0] ![16, 512] hb).emb (ix2 r k) := by
  ext a
  match a with
  | 0 => simp
  | 1 => simp

/-- The last step copies rows. -/
theorem copied (v : Vec Ideal S16x512 .f32) (r : Fin 16) (k : Fin 512) : k0_pay2 v (ix2 r k) = v (ix2 r k) := by
  pointwise [k0_pay2]

set_option maxHeartbeats 4000000 in
/-- What a grid point at the first block of a sequence leaves in the first sixteen rows of the kept array. -/
theorem left_at_A (c : Dev nD) (t : Fin cfg0.N) (hc : cond0_0 (grid0.coords t)) (x0 : Vec Ideal S1024x1024 .f32) (x1 : Vec Ideal S1x1024x1536 .bf16)
    (x2 : Vec Ideal S1x1024x1024 .bf16) (x3 : Vec Ideal S1x2x256x256 .bf16) (x4 x5 x6 : Vec Ideal S1x1x512 .f32)
    (x7 : Vec Ideal S1x4x128x128 .f32) (x8 : Vec Ideal S1x128x4 .f32) (x9 x10 : Vec Ideal S1x1x1024 .f32) (r : Fin 16) (k : Fin 512) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc x0 x1 x2 x3 x4 x5 x6 x7 x8 x9 x10 (ix2 ⟨r, by omega⟩ k)
      = rowOf x0 x1 ⟨1008 + r, by omega⟩ ⟨k, by omega⟩ := by
  frame_open
  simp (disch := decide) only [↓ View.readCov_skip, ↓ View.readCov_cons_toLoadRect, ↓ View.readCov_fill]
  frame_out
  refine (congrArg _ (first_rows (by decide) r k)).trans ((View.canon_cons_emb _ _ _ _).trans ?_)
  refine (copied _ r k).trans ((load_covered (fun _ => 0) x0 x1 _ 1024 16 1 (by decide) (by decide) _ ?_ (by rfl) r k).trans ?_)
  · repeat' first
      | exact trivial
      | refine And.intro (piece_extended _ x0 x1 _ (by decide) (by decide) _ rfl) ?_
      | exact And.intro (piece_zero x0 x1 (by decide)) trivial
  · exact extended_late _ x0 x1 _ k _ (by show 1024 + r.val = 16 + (1008 + r.val); omega)

set_option maxHeartbeats 4000000 in
/-- What a grid point after the first block of a sequence leaves in the first sixteen rows of the kept array. -/
theorem left_at_B (c : Dev nD) (t : Fin cfg0.N) (hc : ¬cond0_0 (grid0.coords t)) (x0 : Vec Ideal S1024x1024 .f32) (x1 : Vec Ideal S1x1024x1536 .bf16)
    (x2 : Vec Ideal S1x1024x1024 .bf16) (x3 : Vec Ideal S1x2x256x256 .bf16) (x4 x5 x6 : Vec Ideal S1x1x512 .f32)
    (x7 : Vec Ideal S1x4x128x128 .f32) (x8 : Vec Ideal S1x128x4 .f32) (x9 x10 : Vec Ideal S1x1x1024 .f32) (xs : Vec Ideal S1040x512 .f32) (r : Fin 16) (k : Fin 512) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) hc x0 x1 x2 x3 x4 x5 x6 x7 x8 x9 x10 xs (ix2 ⟨r, by omega⟩ k)
      = rowOf x0 x1 ⟨1008 + r, by omega⟩ ⟨k, by omega⟩ := by
  frame_open
  simp (disch := decide) only [↓ View.readCov_skip, ↓ View.readCov_cons_toLoadRect, ↓ View.readCov_fill]
  frame_out
  refine (congrArg _ (first_rows (by decide) r k)).trans ((View.canon_cons_emb _ _ _ _).trans ?_)
  refine (copied _ r k).trans ((load_covered xs x0 x1 _ 1024 16 1 (by decide) (by decide) _ ?_ (by rfl) r k).trans ?_)
  · repeat' first
      | exact trivial
      | refine And.intro (piece_extended _ x0 x1 _ (by decide) (by decide) _ rfl) ?_
  · exact extended_late _ x0 x1 _ k _ (by show 1024 + r.val = 16 + (1008 + r.val); omega)

variable (m : (ℓ : Loc nD τ sig) → Buf (Elt Ideal) ℓ)

/-- The rows that a grid point finds from the block before: none at the start of a sequence. -/
def carried (c : Dev nD) (t : Fin cfg0.N) : Vec Ideal S1040x512 .f32 :=
  if t.val % 16 = 0 then fun _ => 0 else (outsAt0 m c (t.val - 1) (Nat.lt_of_le_of_lt (Nat.sub_le _ _) t.isLt)).2

/-- What a grid point stores. -/
theorem outs_row (c : Dev nD) (t : Fin cfg0.N) (w : Fin 4 → Fin 128 → Fin 128 → EReal)
    (hw : ∀ i k n, iblk m c 3 t (ix4 0 i k n) = blocks w i k n) (y : S1024x1024.Idx) :
    (outsAt0 m c t.val t.isLt).1 y = blockRow (iblk m c 0 t) (iblk m c 1 t) (BitVec.ofNat 32 (grid0.coords t 1))
      (extended (carried m c t) (iblk m c 0 t) (iblk m c 1 t)) (iblk m c 2 t) w (iblk m c 4 t) (iblk m c 5 t) (iblk m c 6 t)
      (iblk m c 7 t) (iblk m c 8 t) (iblk m c 9 t) (iblk m c 10 t) (y 0) (y 1) := by
  by_cases h0 : t.val % 16 = 0
  · rw [outsAt0_A m c t h0, carried, if_pos h0]
    dsimp only
    exact out_at_A c t ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) w hw y
  · rw [outsAt0_B m c t h0, carried, if_neg h0]
    dsimp only
    exact out_at_B c t (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)
      (outsAt0 m c (t.val - 1) (Nat.lt_of_le_of_lt (Nat.sub_le _ _) t.isLt)).2 w hw y

/-- What a grid point leaves for the next: the last sixteen rows of its block. -/
theorem left_row (c : Dev nD) (t : Fin cfg0.N) (r : Fin 16) (k : Fin 512) :
    (outsAt0 m c t.val t.isLt).2 (ix2 ⟨r, by omega⟩ k) = rowOf (iblk m c 0 t) (iblk m c 1 t) ⟨1008 + r, by omega⟩ ⟨k, by omega⟩ := by
  by_cases h0 : t.val % 16 = 0
  · rw [outsAt0_A m c t h0]
    dsimp only
    exact left_at_A c t ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) r k
  · rw [outsAt0_B m c t h0]
    dsimp only
    exact left_at_B c t (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)
      (outsAt0 m c (t.val - 1) (Nat.lt_of_le_of_lt (Nat.sub_le _ _) t.isLt)).2 r k

end Cert.EvenIdeal.Even
-- ==== Proof.EvenValue.lean ====
module

public import proofs.«01_k».proof.Proof.EvenBlock
public import proofs.«01_k».proof.Proof.Gen.EvenRefIdeal.Read
public import Idealize.ShloMosaic.Lib.Claim
public import Idealize.ShloMosaic.Lib.Pipeline.ValueKit

@[expose] public section

set_option maxRecDepth 16384

noncomputable section

/-! The mixer kernel's result array, row by row. -/

namespace Cert.EvenIdeal.Even

open Cert.EvenIdeal Cert.EvenIdeal.Gen Idealize.ShloMosaic Idealize.ShloMosaic.TcCoe Idealize.SL.Sem
open Idealize.ShloMosaic.Pipeline (Dat)
open Cert.Trunk

variable (m : (ℓ : Loc nD τ sig) → Buf (Elt Ideal) ℓ)

/-- The blocks a grid point reads and writes: row block `t` of the input and the result, slice 1 of the weights, the
    norm parameters 4 * 2 + 1. The second grid coordinate is the block's number within its sequence. -/
theorem idx : ∀ t : Fin cfg0.N, win0_0.index t = ![t.val, 0] ∧ win0_1.index t = ![1, 0, 0]
    ∧ win0_2.index t = ![1, 0, 0] ∧ win0_3.index t = ![1, 0, 0, 0] ∧ win0_4.index t = ![1, 0, 0] ∧ win0_5.index t = ![1, 0, 0]
    ∧ win0_6.index t = ![1, 0, 0] ∧ win0_7.index t = ![1, 0, 0, 0] ∧ win0_8.index t = ![1, 0, 0] ∧ win0_9.index t = ![9, 0, 0]
    ∧ win0_10.index t = ![9, 0, 0] ∧ win0_11.index t = ![t.val, 0] ∧ (grid0.coords t 1).val = t.val % 16 :=
  (by decide +kernel : ∀ t : Fin grid0.N, _)

/-- A block's projected rows are those of its part of the sequence. -/
theorem row_seq (c : Dev nD) (t : Fin cfg0.N) (r : Fin 1024) (n : Fin 1536) (b : Fin 2) (s : Fin 16384) (hb : b.val = t.val / 16)
    (hs : s.val = t.val % 16 * 1024 + r) : rowOf (iblk m c 0 t) (iblk m c 1 t) r n
      = project (fun k => m ((c : Thread nD τ).loc main_arg0) (ix3 b s k)) (fun k n => m ((c : Thread nD τ).loc main_arg1) (ix3 1 k n)) n := by
  have ht : t.val < 32 := lt_of_lt_of_eq t.isLt N_0
  refine congrFun (congrArg₂ project (funext fun k => ?_) (funext fun k => funext fun n => ?_)) n
  · blk_simp [iblk]; entry_read; pointwise; blk_ext [idx t]
  · blk_simp [iblk]; entry_read; pointwise; blk_ext [idx t]

/-- The kept array of a block, `j` rows before row `r`: the projected position `j` before, or zero before the start. -/
theorem back_seq (c : Dev nD) (t : Fin cfg0.N) (r : Fin 1024) (j : ℕ) (hj : j < 16) (k : Fin 512) (b : Fin 2) (s : Fin 16384)
    (hb : b.val = t.val / 16) (hs : s.val = t.val % 16 * 1024 + r) :
    extended (carried m c t) (iblk m c 0 t) (iblk m c 1 t) (ix2 ⟨r + 16 - j, by omega⟩ k)
      = if j ≤ s.val then project (fun k => m ((c : Thread nD τ).loc main_arg0) (ix3 b ⟨s - j, by omega⟩ k))
          (fun k n => m ((c : Thread nD τ).loc main_arg1) (ix3 1 k n)) ⟨k, by omega⟩ else 0 := by
  by_cases h : j ≤ r.val
  · rw [if_pos (by omega), extended_late _ _ _ _ k ⟨r - j, by omega⟩ (by show r.val + 16 - j = 16 + (r.val - j); omega)]
    exact row_seq m c t _ _ _ _ hb (by show s.val - j = t.val % 16 * 1024 + (r.val - j); omega)
  · rw [extended_early _ _ _ _ k (by show r.val + 16 - j < 16; omega), carried]
    by_cases h0 : t.val % 16 = 0
    · rw [if_pos h0, if_neg (by omega)]
    · have ht : t.val < cfg0.N := t.isLt
      rw [if_neg h0, if_pos (by omega)]
      refine (left_row m c ⟨t.val - 1, by omega⟩ ⟨r + 16 - j, by omega⟩ k).trans (row_seq m c _ _ _ _ _ ?_ ?_)
      · show b.val = (t.val - 1) / 16
        omega
      · show s.val - j = (t.val - 1) % 16 * 1024 + (1008 + (r.val + 16 - j))
        omega

/-- The position of a block's row, counted along the sequence. -/
theorem place_seq (q n s : ℕ) (h : s = q * 1024 + n) : place (BitVec.ofNat 32 q) n = position s := by
  unfold place position
  rw [h, BitVec.ofNat_add, BitVec.ofNat_mul]
  exact congrArg _ (by ac_rfl)

/-- The host's layout of the pooling matrices puts two groups' matrices on a diagonal. -/
theorem diagonal (P : Fin 4 → Fin 128 → Fin 128 → EReal) (i : Fin 2) (k n : Fin 256) :
    P ⟨i * 2 + k / 128, by omega⟩ ⟨k % 128, Nat.mod_lt _ (by decide)⟩ ⟨n % 128, Nat.mod_lt _ (by decide)⟩
      * FloatOps.uitofp (F := Ideal) .f32 (IntOp.cmpi .eq (IntOp.addi (BitVec.ofNat 32 (k / 128)) 0#32) (BitVec.ofNat 32 (n / 128)))
      = blocks P i k n := by
  have e := on_diagonal .f32 ⟨k / 128, by omega⟩ ⟨n / 128, by omega⟩
  dsimp only at e
  rw [e]
  by_cases h : k.val / 128 = n.val / 128
  · rw [if_pos (Fin.ext h), mul_one, blocks, if_pos h]
  · rw [if_neg (fun e => h (congrArg Fin.val e)), mul_zero, blocks_off _ _ h]

/-- The pooling matrices as the kernel takes them. -/
theorem pool_blocks (c : Dev nD) (t : Fin cfg0.N) (i : Fin 2) (k n : Fin 256) :
    iblk m c 3 t (ix4 0 i k n) = blocks (fun g k n => m ((c : Thread nD τ).loc main_arg3) (ix4 1 g k n)) i k n := by
  rw [← diagonal]
  blk_simp [iblk]; entry_read; pointwise; refine congrArg₂ (· * ·) ?_ ?_
  · blk_ext [idx t]
  · blk_simp [idx t]

/-- The mixer over whole arrays: row `r` of the flattened result is position `r % 16384` of sequence `r / 16384`; the
    weights are slice 1 of the stacked arrays, the normalisation entry 1 of slice 2. -/
def layer (X : Vec Ideal S2x16384x1024 .f32) (W : Vec Ideal S2x1024x1536 .f32) (WO : Vec Ideal S2x1024x1024 .f32)
    (P : Vec Ideal S2x4x128x128 .f32) (PS LG LB : Vec Ideal S2x512 .f32) (SW : Vec Ideal S2x4x128x128 .f32) (SB : Vec Ideal S2x4x128 .f32)
    (G B : Vec Ideal S4x4x1024 .f32) : Vec Ideal S32768x1024 .f32 := fun j =>
  evenAt (fun s k => X (ix3 ⟨(j 0).val / 16384, by have := (j 0).isLt; change _ < 32768 at this; omega⟩ s k)) (fun k n => W (ix3 1 k n))
    (fun g k n => P (ix4 1 g k n)) (fun k => PS (ix2 1 k)) (fun k => LG (ix2 1 k)) (fun k => LB (ix2 1 k)) (fun h r s => SW (ix4 1 h r s))
    (fun h r => SB (ix3 1 h r)) (fun k n => WO (ix3 1 k n)) (fun k => G (ix3 2 1 k)) (fun k => B (ix3 2 1 k))
    ⟨(j 0).val % 16384, by omega⟩ (j 1)

/-- Equal arguments, equal results. -/
theorem layer_congr {X X' : Vec Ideal S2x16384x1024 .f32} {W W' : Vec Ideal S2x1024x1536 .f32} {WO WO' : Vec Ideal S2x1024x1024 .f32}
    {P P' SW SW' : Vec Ideal S2x4x128x128 .f32} {PS PS' LG LG' LB LB' : Vec Ideal S2x512 .f32} {SB SB' : Vec Ideal S2x4x128 .f32}
    {G G' B B' : Vec Ideal S4x4x1024 .f32} (h0 : X = X') (h1 : W = W') (h2 : WO = WO') (h3 : P = P') (h4 : PS = PS') (h5 : LG = LG')
    (h6 : LB = LB') (h7 : SW = SW') (h8 : SB = SB') (h9 : G = G') (h10 : B = B') :
    layer X W WO P PS LG LB SW SB G B = layer X' W' WO' P' PS' LG' LB' SW' SB' G' B' := by
  subst h0 h1 h2 h3 h4 h5 h6 h7 h8 h9 h10
  rfl

set_option maxHeartbeats 2000000 in
/-- The kernel's result array is the mixer of its arguments. -/
theorem final (c : Dev nD) :
    (dats m 0 c).arrAt 11 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  refine (dats m 0 c).arrAt_eq_of_covers 11 _ (by decide +kernel) fun t _ y => ?_
  have ht : t.val < 32 := lt_of_lt_of_eq t.isLt N_0
  blk_simp
  rw [after0_11]
  refine (outs_row m c t _ (pool_blocks m c t) y).trans ?_
  have e0 : ((win0_11.blk t).view.emb y 0).val = t.val * 1024 + (y 0).val := by blk_simp [idx t]
  have e1 : (y 1 : Fin 1024) = (win0_11.blk t).view.emb y 1 := Fin.ext (by blk_simp [idx t])
  have hy : (y 0).val < 1024 := (y 0).isLt
  have hb : ((win0_11.blk t).view.emb y 0).val / 16384 = t.val / 16 := by omega
  have hs : ((win0_11.blk t).view.emb y 0).val % 16384 = t.val % 16 * 1024 + (y 0).val := by omega
  unfold blockRow layer evenAt
  refine evenRow_congr ?_ ?_ ?_ ?_ ?_ ?_ ?_ ?_ ?_ ?_ ?_ ?_ ?_ ?_ ?_ e1
  · intro k; blk_simp [iblk]; entry_read; pointwise; blk_ext [idx t]
  · rw [(idx t).2.2.2.2.2.2.2.2.2.2.2.2]
    exact place_seq _ _ _ hs
  · exact fun j hj k => back_seq m c t _ j hj k _ ⟨_, Nat.mod_lt _ (by decide)⟩ hb hs
  · exact fun k => row_seq m c t _ k _ ⟨_, Nat.mod_lt _ (by decide)⟩ hb hs
  · exact fun i k => row_seq m c t _ k _ _ hb (by
      show ((win0_11.blk t).view.emb y 0).val % 16384 / 128 * 128 + i.val = t.val % 16 * 1024 + ((y 0).val / 128 * 128 + i.val)
      omega)
  · refine Fin.ext ?_
    show (y 0).val % 128 = ((win0_11.blk t).view.emb y 0).val % 16384 % 128
    omega
  · exact fun _ _ _ => rfl
  · intro k; blk_simp [iblk]; entry_read; pointwise; blk_ext [idx t]
  · intro k; blk_simp [iblk]; entry_read; pointwise; blk_ext [idx t]
  · intro k; blk_simp [iblk]; entry_read; pointwise; blk_ext [idx t]
  · intro h r s; blk_simp [iblk]; entry_read; pointwise; blk_ext [idx t]
  · intro h r; blk_simp [iblk]; entry_read; pointwise; blk_ext [idx t]
  · intro k n; blk_simp [iblk]; entry_read; pointwise; blk_ext [idx t]
  · intro k; blk_simp [iblk]; entry_read; pointwise; blk_ext [idx t]
  · intro k; blk_simp [iblk]; entry_read; pointwise; blk_ext [idx t]

end Cert.EvenIdeal.Even
-- ==== Proof.EvenRefValue.lean ====
module

public import proofs.«01_k».proof.Proof.EvenSpec
public import proofs.«01_k».proof.Proof.Gen.EvenRefIdeal.Read

@[expose] public section

set_option maxRecDepth 16384

noncomputable section

/-! The reference for the mixer of an even layer, row by row. -/

namespace Cert.EvenRefIdeal.Even

open Cert.EvenRefIdeal Cert.EvenRefIdeal.Gen Cert.EvenRefIdeal.Read
open Idealize.ShloMosaic Idealize.ShloMosaic.TcCoe Idealize.SL.Sem
open Cert.Trunk

variable (X : (⟨S2x16384x1024, .f32⟩ : BufTy).Contents (Elt Ideal)) (W : (⟨S2x1024x1536, .f32⟩ : BufTy).Contents (Elt Ideal))

/-- The input matrix applied to a position. -/
theorem input_at (b : Fin 2) (s : Fin 16384) (n : Fin 1536) :
    val_main_v2 (F := Ideal) X W (ix3 b s n) = project (fun k => X (ix3 b s k)) (fun k n => W (ix3 1 k n)) n := by
  pointwise [val_main_v2, val_main_v1, val_main_v0, project]

/-- The projected position `j` before `s`, zero before the start. -/
def earlier (b : Fin 2) (s : Fin 16384) (j : ℕ) (c : Fin 512) : EReal :=
  if j ≤ s.val then project (fun k => X (ix3 b ⟨s - j, by omega⟩ k)) (fun k n => W (ix3 1 k n)) ⟨c, by omega⟩ else 0

/-- Whether an index lies in the part of a shifted sequence that is not filled in: only its start matters. -/
theorem shifted {α : Type} (s : Fin 16384) {j n : ℕ} (hn : 16384 ≤ n + j) (t : j ≤ s.val ∧ s.val - j < n → α) (z : α) :
    (if h : j ≤ s.val ∧ s.val - j < n then t h else z) = if h : j ≤ s.val then t ⟨h, by omega⟩ else z := by
  by_cases h : j ≤ s.val
  · rw [dif_pos h, dif_pos ⟨h, by omega⟩]
  · rw [dif_neg h, dif_neg fun q => h q.1]

/-- What is filled in is zero. -/
theorem filled : (FloatOps.sitofp (F := Ideal) .f32 0#32 : EReal) = 0 := by
  simp [FloatOps.sitofp]

/-- The first pooling group. -/
theorem first_at (b : Fin 2) (s : Fin 16384) (k : Fin 128) :
    val_main_v21 (F := Ideal) X W (ix3 b s k) = pooled 0 (position s) (fun j => earlier X W b s j (groupCol 0 k))
      (project (fun k => X (ix3 b s k)) (fun k n => W (ix3 1 k n)) ⟨groupCol 0 k, by omega⟩) := by
  pointwise [
    val_main_v21, val_main_v20, val_main_v19, val_main_v18, val_main_v17, val_main_cst_1, val_main_v16, val_main_v15,
    val_main_call0_v0, val_main_c_0, val_main_v14, val_main_v13, val_main_v12, val_main_cst, val_main_v11, val_main_v10,
    val_main_v9, val_main_v8, val_main_v7, val_main_v6, val_main_c, val_main_v3, input_at, pooled, earlier, groupCol,
    position]
  simp (disch := decide) only [shifted, filled]
  simp only [show window 0 = 2 from rfl, Finset.sum_range_succ, Finset.sum_range_zero, zero_add, Nat.zero_le, if_true, Nat.sub_zero, Fin.eta]
  rfl

/-- The second pooling group. -/
theorem second_at (b : Fin 2) (s : Fin 16384) (k : Fin 128) :
    val_main_v38 (F := Ideal) X W (ix3 b s k) = pooled 1 (position s) (fun j => earlier X W b s j (groupCol 1 k))
      (project (fun k => X (ix3 b s k)) (fun k n => W (ix3 1 k n)) ⟨groupCol 1 k, by omega⟩) := by
  pointwise [
    val_main_v38, val_main_v37, val_main_v36, val_main_v35, val_main_v34, val_main_cst_6, val_main_v33, val_main_v32,
    val_main_call3_v0, val_main_c_5, val_main_v31, val_main_v30, val_main_v29, val_main_call2_v0, val_main_c_4,
    val_main_v28, val_main_v27, val_main_v26, val_main_call1_v0, val_main_c_3, val_main_v25, val_main_v24, val_main_v23,
    val_main_cst_2, val_main_v22, val_main_v10, val_main_v9, val_main_v8, val_main_v7, val_main_v6, val_main_c, val_main_v3,
    input_at, pooled, earlier, groupCol, position]
  simp (disch := decide) only [shifted, filled]
  simp only [show window 1 = 4 from rfl, Finset.sum_range_succ, Finset.sum_range_zero, zero_add, Nat.zero_le, if_true, Nat.sub_zero, Fin.eta]
  rfl

/-- The third pooling group. -/
theorem third_at (b : Fin 2) (s : Fin 16384) (k : Fin 128) :
    val_main_v67 (F := Ideal) X W (ix3 b s k) = pooled 2 (position s) (fun j => earlier X W b s j (groupCol 2 k))
      (project (fun k => X (ix3 b s k)) (fun k n => W (ix3 1 k n)) ⟨groupCol 2 k, by omega⟩) := by
  pointwise [
    val_main_v67, val_main_v66, val_main_v65, val_main_v64, val_main_v63, val_main_cst_15, val_main_v62, val_main_v61,
    val_main_call10_v0, val_main_c_14, val_main_v60, val_main_v59, val_main_v58, val_main_call9_v0, val_main_c_13,
    val_main_v57, val_main_v56, val_main_v55, val_main_call8_v0, val_main_c_12, val_main_v54, val_main_v53, val_main_v52,
    val_main_call7_v0, val_main_c_11, val_main_v51, val_main_v50, val_main_v49, val_main_call6_v0, val_main_c_10,
    val_main_v48, val_main_v47, val_main_v46, val_main_call5_v0, val_main_c_9, val_main_v45, val_main_v44, val_main_v43,
    val_main_call4_v0, val_main_c_8, val_main_v42, val_main_v41, val_main_v40, val_main_cst_7, val_main_v39, val_main_v10,
    val_main_v9, val_main_v8, val_main_v7, val_main_v6, val_main_c, val_main_v3, input_at, pooled, earlier, groupCol,
    position]
  simp (disch := decide) only [shifted, filled]
  simp only [show window 2 = 8 from rfl, Finset.sum_range_succ, Finset.sum_range_zero, zero_add, Nat.zero_le, if_true, Nat.sub_zero, Fin.eta]
  rfl

/-- The fourth pooling group. -/
theorem fourth_at (b : Fin 2) (s : Fin 16384) (k : Fin 128) :
    val_main_v120 (F := Ideal) X W (ix3 b s k) = pooled 3 (position s) (fun j => earlier X W b s j (groupCol 3 k))
      (project (fun k => X (ix3 b s k)) (fun k n => W (ix3 1 k n)) ⟨groupCol 3 k, by omega⟩) := by
  pointwise [
    val_main_v120, val_main_v119, val_main_v118, val_main_v117, val_main_v116, val_main_cst_32, val_main_v115,
    val_main_v114, val_main_call25_v0, val_main_c_31, val_main_v113, val_main_v112, val_main_v111, val_main_call24_v0,
    val_main_c_30, val_main_v110, val_main_v109, val_main_v108, val_main_call23_v0, val_main_c_29, val_main_v107,
    val_main_v106, val_main_v105, val_main_call22_v0, val_main_c_28, val_main_v104, val_main_v103, val_main_v102,
    val_main_call21_v0, val_main_c_27, val_main_v101, val_main_v100, val_main_v99, val_main_call20_v0, val_main_c_26,
    val_main_v98, val_main_v97, val_main_v96, val_main_call19_v0, val_main_c_25, val_main_v95, val_main_v94, val_main_v93,
    val_main_call18_v0, val_main_c_24, val_main_v92, val_main_v91, val_main_v90, val_main_call17_v0, val_main_c_23,
    val_main_v89, val_main_v88, val_main_v87, val_main_call16_v0, val_main_c_22, val_main_v86, val_main_v85, val_main_v84,
    val_main_call15_v0, val_main_c_21, val_main_v83, val_main_v82, val_main_v81, val_main_call14_v0, val_main_c_20,
    val_main_v80, val_main_v79, val_main_v78, val_main_call13_v0, val_main_c_19, val_main_v77, val_main_v76, val_main_v75,
    val_main_call12_v0, val_main_c_18, val_main_v74, val_main_v73, val_main_v72, val_main_call11_v0, val_main_c_17,
    val_main_v71, val_main_v70, val_main_v69, val_main_cst_16, val_main_v68, val_main_v10, val_main_v9, val_main_v8,
    val_main_v7, val_main_v6, val_main_c, val_main_v3, input_at, pooled, earlier, groupCol, position]
  simp (disch := decide) only [shifted, filled]
  simp only [show window 3 = 16 from rfl, Finset.sum_range_succ, Finset.sum_range_zero, zero_add, Nat.zero_le, if_true, Nat.sub_zero, Fin.eta]
  rfl

/-- The four groups side by side. -/
theorem groups_at (b : Fin 2) (s : Fin 16384) (g : Fin 4) (k : Fin 128) :
    val_main_v125 (F := Ideal) X W (ix4 b s g k) = pooled g (position s) (fun j => earlier X W b s j (groupCol g k))
      (project (fun k => X (ix3 b s k)) (fun k n => W (ix3 1 k n)) ⟨groupCol g k, by omega⟩) := by
  match g with
  | 0 => pointwise [val_main_v125, val_main_v121, first_at]
  | 1 => pointwise [val_main_v125, val_main_v122, second_at]
  | 2 => pointwise [val_main_v125, val_main_v123, third_at]
  | 3 => pointwise [val_main_v125, val_main_v124, fourth_at]

variable (WO : (⟨S2x1024x1024, .f32⟩ : BufTy).Contents (Elt Ideal)) (PW : (⟨S2x4x128x128, .f32⟩ : BufTy).Contents (Elt Ideal))
    (PS LG LB : (⟨S2x512, .f32⟩ : BufTy).Contents (Elt Ideal)) (SW : (⟨S2x4x128x128, .f32⟩ : BufTy).Contents (Elt Ideal))
    (SB : (⟨S2x4x128, .f32⟩ : BufTy).Contents (Elt Ideal)) (G B : (⟨S4x4x1024, .f32⟩ : BufTy).Contents (Elt Ideal))

/-- The pooling half. -/
theorem pool_at (b : Fin 2) (s : Fin 16384) (c : Fin 512) :
    val_main_v135 (F := Ideal) X W PW PS (ix3 b s c)
      = poolOut (position s) (earlier X W b s) (fun k => project (fun k => X (ix3 b s k)) (fun k n => W (ix3 1 k n)) ⟨k, by omega⟩)
          (fun g k n => PW (ix4 1 g k n)) (fun k => PS (ix2 1 k)) c := by
  pointwise [
    val_main_v135, val_main_v134, val_main_v133, val_main_v132, val_main_v131, val_main_v130, val_main_v129, val_main_v128,
    val_main_v127, val_main_v126, groups_at, poolOut]
  exact congrArg (· * _) (Finset.sum_congr rfl fun k _ => mul_comm _ _)

/-- The gate. -/
theorem gate_at (b : Fin 2) (s : Fin 16384) (c : Fin 512) :
    val_main_v148 (F := Ideal) X W (ix3 b s c)
      = gelu (project (fun k => X (ix3 b s k)) (fun k n => W (ix3 1 k n)) ⟨512 + c, by omega⟩) := by
  pointwise [
    val_main_v148, val_main_v147, val_main_v146, val_main_cst_36, val_main_v145, val_main_v144, val_main_cst_35,
    val_main_v143, val_main_v142, val_main_v141, val_main_cst_34, val_main_v140, val_main_v139, val_main_v138,
    val_main_cst_33, val_main_v137, val_main_v136, val_main_v4, input_at, gelu]
  generalize project (fun k => X (ix3 b s k)) (fun k n => W (ix3 1 k n)) ⟨512 + c, by omega⟩ = z
  rw [mul_comm (z * z) z]

/-- The rows to be mixed, before their normalisation. -/
theorem rows_at (b : Fin 2) (s : Fin 16384) (c : Fin 512) :
    val_main_v161 (F := Ideal) X W (ix3 b s c)
      = gelu (project (fun k => X (ix3 b s k)) (fun k n => W (ix3 1 k n)) ⟨1024 + c, by omega⟩) := by
  pointwise [
    val_main_v161, val_main_v160, val_main_v159, val_main_cst_40, val_main_v158, val_main_v157, val_main_cst_39,
    val_main_v156, val_main_v155, val_main_v154, val_main_cst_38, val_main_v153, val_main_v152, val_main_v151,
    val_main_cst_37, val_main_v150, val_main_v149, val_main_v5, input_at, gelu]
  generalize project (fun k => X (ix3 b s k)) (fun k n => W (ix3 1 k n)) ⟨1024 + c, by omega⟩ = z
  rw [mul_comm (z * z) z]

/-- The rows to be mixed. -/
theorem normed_at (b : Fin 2) (s : Fin 16384) (c : Fin 512) :
    val_main_v189 (F := Ideal) X W LG LB (ix3 b s c)
      = layerNorm512 (fun k => val_main_v161 (F := Ideal) X W (ix3 b s k)) (fun k => LG (ix2 1 k)) (fun k => LB (ix2 1 k)) c := by
  pointwise [
    val_main_v189, val_main_v188, val_main_v187, val_main_v186, val_main_v185, val_main_v184, val_main_v183, val_main_v182,
    val_main_v181, val_main_v180, val_main_v179, val_main_cst_45, val_main_v178, val_main_v177, val_main_v176,
    val_main_v175, val_main_cst_44, val_main_v174, val_main_v173, val_main_cst_43, val_main_v172, val_main_v171,
    val_main_v170, val_main_v169, val_main_v168, val_main_cst_42, val_main_v167, val_main_v166, val_main_cst_41,
    val_main_v165, val_main_v164, val_main_v163, val_main_v162, layerNorm512, mean512]

/-- The mixing matrices, zero above the diagonal. -/
theorem mixing_at (h : Fin 4) (r s : Fin 128) :
    val_main_v193 (F := Ideal) SW (ix3 h r s) = if s ≤ r then SW (ix4 1 h r s) else 0 := by
  refine Eq.trans ?_ (causal r s _ _)
  pointwise [
    val_main_v193, val_main_call26_v6, val_main_call26_cst, val_main_call26_v5, val_main_call26_v4, val_main_call26_v3,
    val_main_call26_v2, val_main_call26_v1, val_main_call26_c, val_main_call26_v0, val_main_v192, val_main_v191]
  rw [IntOp.addi, BitVec.add_zero]

/-- The gating half. -/
theorem gating_at (b : Fin 2) (s : Fin 16384) (c : Fin 512) :
    val_main_v203 (F := Ideal) X W LG LB SW SB (ix3 b s c)
      = gateOut ⟨s % 128, Nat.mod_lt _ (by decide)⟩ (fun k => project (fun k => X (ix3 b s k)) (fun k n => W (ix3 1 k n)) ⟨512 + k, by omega⟩)
          (fun i k => project (fun k => X (ix3 b ⟨s / 128 * 128 + i, by omega⟩ k)) (fun k n => W (ix3 1 k n)) ⟨1024 + k, by omega⟩)
          (fun k => LG (ix2 1 k)) (fun k => LB (ix2 1 k)) (fun h r s => SW (ix4 1 h r s)) (fun h r => SB (ix3 1 h r)) c := by
  pointwise [
    val_main_v203, val_main_v202, val_main_v201, val_main_v200, val_main_v199, val_main_v198, val_main_v197, val_main_v196,
    val_main_v195, val_main_v194, val_main_v190, gate_at, mixing_at, normed_at, rows_at, gateOut]
  exact congrArg (_ * ·) (congrArg (· + _) (Finset.sum_congr rfl fun i _ => mul_comm _ _))

/-- The residual stream after the mixer, before the normalisation. -/
theorem sum_at (b : Fin 2) (s : Fin 16384) (c : Fin 1024) :
    val_main_v210 (F := Ideal) X W WO PW PS LG LB SW SB (ix3 b s c) = deep (X (ix3 b s c))
      + ((∑ k : Fin 512, val_main_v135 (F := Ideal) X W PW PS (ix3 b s k) * WO (ix3 1 ⟨k, by omega⟩ c))
        + ∑ k : Fin 512, val_main_v203 (F := Ideal) X W LG LB SW SB (ix3 b s k) * WO (ix3 1 ⟨512 + k, by omega⟩ c)) := by
  pointwise [
    val_main_v210, val_main_v209, val_main_v208, val_main_cst_46, val_main_v207, val_main_v206, val_main_v205,
    val_main_v204, deep]

/-- The normalised result. -/
theorem result_at (r : Fin 32768) (c : Fin 1024) :
    val_main_v239 (F := Ideal) X W WO PW PS LG LB SW SB G B (ix2 r c)
      = layerNorm (fun k => val_main_v210 (F := Ideal) X W WO PW PS LG LB SW SB (ix3 ⟨r / 16384, by omega⟩ ⟨r % 16384, by omega⟩ k))
          (fun k => G (ix3 2 1 k)) (fun k => B (ix3 2 1 k)) c := by
  pointwise [
    val_main_v239, val_main_v238, val_main_v237, val_main_v236, val_main_v235, val_main_v234, val_main_v233, val_main_v232,
    val_main_v231, val_main_v230, val_main_v229, val_main_v228, val_main_cst_51, val_main_v227, val_main_v226,
    val_main_v225, val_main_v224, val_main_cst_50, val_main_v223, val_main_v222, val_main_cst_49, val_main_v221,
    val_main_v220, val_main_v219, val_main_v218, val_main_v217, val_main_cst_48, val_main_v216, val_main_v215,
    val_main_cst_47, val_main_v214, val_main_v213, val_main_v212, val_main_v211, layerNorm, variance, mean]

/-- The reference's result at an index is the mixer at its position. -/
theorem layer_at (r : Fin 32768) (c : Fin 1024) :
    val_main_v239 (F := Ideal) X W WO PW PS LG LB SW SB G B (ix2 r c)
      = evenAt (fun s k => X (ix3 ⟨r / 16384, by omega⟩ s k)) (fun k n => W (ix3 1 k n))
          (fun g k n => PW (ix4 1 g k n)) (fun k => PS (ix2 1 k)) (fun k => LG (ix2 1 k)) (fun k => LB (ix2 1 k))
          (fun h r s => SW (ix4 1 h r s)) (fun h r => SB (ix3 1 h r)) (fun k n => WO (ix3 1 k n))
          (fun k => G (ix3 2 1 k)) (fun k => B (ix3 2 1 k)) ⟨r % 16384, by omega⟩ c := by
  rw [result_at]
  simp only [sum_at, pool_at, gating_at, evenAt, evenRow, mixRow]
  rfl

end Cert.EvenRefIdeal.Even
-- ==== Proof.EvenClaim.lean ====
module

public import proofs.«01_k».proof.Defs
public import proofs.«01_k».proof.Proof.Gen.Even
public import proofs.«01_k».proof.Proof.Gen.Even.Frame
public import proofs.«01_k».proof.Proof.Gen.EvenIdeal.Value
public import proofs.«01_k».proof.Proof.EvenValue
public import proofs.«01_k».proof.Proof.EvenRefValue
public import Idealize.ShloMosaic.Lib.Claim

@[expose] public section

set_option maxRecDepth 16384

noncomputable section

/-! The claims about the mixer of an even layer. -/

namespace Cert.Proof

open Idealize.ShloMosaic Idealize.SL.Sem

/-- The printed kernel runs, leaves its arguments alone and ends with every semaphore at zero. -/
theorem frame_Even : Cert.quiescent_Even := fun m g _ => Cert.Even.Gen.frame m g

/-- So does the kernel with exact operations. -/
theorem frame_EvenIdeal : Cert.quiescent_EvenIdeal := fun m g _ => Cert.EvenIdeal.Gen.frame m g

/-- So does the reference, a program with no semaphores. -/
theorem frame_EvenRefIdeal : Cert.quiescent_EvenRefIdeal := fun m g _ =>
  (θ_run _ _ _).mono (fun _ h => ⟨fun c => (h c).2, sem_eq_zero_of_no_sems rfl _⟩) (Cert.EvenRefIdeal.Value.run m g)

/-- The two kernels are one text. -/
theorem preserves_Even : Cert.preserves_Even_EvenIdeal := trivial

/-- Kernel and reference compute the same array. -/
theorem algebraic_Even : Cert.algebraic_EvenIdeal_EvenRefIdeal := by
  pair_intro
  · run_from Cert.EvenIdeal.Gen.run_main m g
  · run_from Cert.EvenRefIdeal.Value.run m' g'
    obtain ⟨e0, e1, e2, e3, e4, e5, e6, e7, e8, e9, e10⟩ := hagree c
    rw [← e9, ← e10]
    refine (Cert.EvenRefIdeal.Read.val_main_v239_eq (StableHlo.launchContents m' c)).trans ?_
    repeat rw [StableHlo.launchContents_devRef]
    refine Eq.trans ?_ (Cert.EvenIdeal.Even.final m c).symm
    refine funext fun j => ?_
    obtain ⟨r, n, rfl⟩ : ∃ (r : Fin 32768) (n : Fin 1024), j = ix2 r n :=
      ⟨j 0, j 1, by ext a; match a with | 0 => rfl | 1 => rfl⟩
    refine (Cert.EvenRefIdeal.Even.layer_at _ _ _ _ _ _ _ _ _ _ _ r n).trans ?_
    exact congrFun (Cert.EvenIdeal.Even.layer_congr e0 e1 e2 e3 e4 e5 e6 e7 e8 e9 e10) (ix2 r n)

end Cert.Proof
-- ==== Proof.KvValue.lean ====
module

public import proofs.«01_k».proof.Proof.TrunkSpec
public import proofs.«01_k».proof.Proof.Gen.KvIdeal.Value
public import Idealize.ShloMosaic.Lib.Claim
public import Idealize.ShloMosaic.Lib.Pipeline.ValueKit

@[expose] public section

set_option maxRecDepth 16384

noncomputable section

/-! The memory's keys and values, as the projection kernel computes them. -/

namespace Cert.KvIdeal.Kv

open Cert.KvIdeal Cert.KvIdeal.Gen Idealize.ShloMosaic Idealize.ShloMosaic.TcCoe Idealize.SL.Sem
open Idealize.ShloMosaic.Pipeline (Dat)
open Cert.Trunk

variable (m : (ℓ : Loc nD τ sig) → Buf (Elt Ideal) ℓ)

/-- The kernel's arithmetic on one block, at an index: the memory row times the layer's matrix. -/
theorem block_at (x : Vec Ideal S1x256x1024 .f32) (w : Vec Ideal S1x1024x2048 .bf16) (r : Fin 256) (n : Fin 2048) :
    k0_pay1 x w (ix4 0 0 r n) = project (fun k => x (ix3 0 r k)) (fun k n => w (ix3 0 k n)) n := by
  pointwise [k0_pay1, project]

/-- What a grid point stores, at an index of the block. -/
theorem out_at (x : Vec Ideal S1x256x1024 .f32) (w : Vec Ideal S1x1024x2048 .bf16) (y : S1x1x256x2048.Idx) :
    out0_2 (F := Ideal) x w y = project (fun k => x (ix3 0 (y 2) k)) (fun k n => w (ix3 0 k n)) (y 3) := by
  unfold out0_2
  canon_tiles z h
  obtain ⟨r, n, rfl⟩ : ∃ (r : Fin 256) (n : Fin 2048), z = ix4 0 0 r n := ⟨z 2, z 3, by
    ext a
    match a with
    | 0 => exact Nat.lt_one_iff.1 (z 0).isLt
    | 1 => exact Nat.lt_one_iff.1 (z 1).isLt
    | 2 => rfl
    | 3 => rfl⟩
  have e2 : y 2 = r := Fin.ext h2
  have e3 : y 3 = n := Fin.ext h3
  rw [block_at, e2, e3]
  refine project_congr ?_ ?_
  · intro k; pointwise; blk_ext
  · intro k n; pointwise; blk_ext

/-- The keys and values of every layer and sequence: row `r` of sequence `b` of the memory times layer `l`'s matrix. -/
def layers (M : Vec Ideal S2x256x1024 .f32) (W : Vec Ideal S4x1024x2048 .f32) : Vec Ideal S4x2x256x2048 .bf16 := fun j =>
  project (fun k => M (ix3 (j 1) (j 2) k)) (fun k n => W (ix3 (j 0) k n)) (j 3)

/-- The blocks a grid point reads and writes: its sequence's memory, its layer's matrix. -/
theorem idx : ∀ t : Fin cfg0.N, win0_0.index t = ![t.val % 2, 0, 0] ∧ win0_1.index t = ![t.val / 2, 0, 0]
    ∧ win0_2.index t = ![t.val / 2, t.val % 2, 0, 0] :=
  (by decide +kernel : ∀ t : Fin grid0.N, _)

/-- The kernel's result array is the projection of every layer and sequence. -/
theorem final (c : Dev nD) :
    (dats m 0 c).arrAt 2 cfg0.N = layers (m ((c : Thread nD τ).loc main_arg0)) (m ((c : Thread nD τ).loc main_arg1)) := by
  refine (dats m 0 c).arrAt_eq_of_covers 2 _ (by decide +kernel) fun t _ y => ?_
  have ht : t.val < 8 := lt_of_lt_of_eq t.isLt N_0
  blk_simp
  rw [after0_2]
  refine (out_at _ _ y).trans ?_
  unfold layers
  refine (project_congr ?_ ?_).trans (congrArg (project _ _) (Fin.ext ?_))
  · intro k; blk_simp [iblk]; entry_read; pointwise; blk_ext [idx t]
  · intro k n; blk_simp [iblk]; entry_read; pointwise; blk_ext [idx t]
  · blk_simp [idx t]

end Cert.KvIdeal.Kv
-- ==== Proof.KvRefValue.lean ====
module

public import proofs.«01_k».proof.Proof.TrunkSpec
public import proofs.«01_k».proof.Proof.Gen.KvRefIdeal.Read

@[expose] public section

set_option maxRecDepth 16384

noncomputable section

/-! The reference for the memory's keys and values, entry by entry. -/

namespace Cert.KvRefIdeal.Kv

open Cert.KvRefIdeal Cert.KvRefIdeal.Gen Cert.KvRefIdeal.Read
open Idealize.ShloMosaic Idealize.ShloMosaic.TcCoe Idealize.SL.Sem
open Cert.Trunk

/-- Entry `n` of row `r` of sequence `b` for layer `l`: the memory row times the layer's matrix. -/
theorem layers_at (M : (⟨S2x256x1024, .f32⟩ : BufTy).Contents (Elt Ideal)) (W : (⟨S4x1024x2048, .f32⟩ : BufTy).Contents (Elt Ideal))
    (l : Fin 4) (b : Fin 2) (r : Fin 256) (n : Fin 2048) :
    val_main_v2 (F := Ideal) M W (ix4 l b r n) = project (fun k => M (ix3 b r k)) (fun k n => W (ix3 l k n)) n := by
  pointwise [val_main_v2, val_main_v1, val_main_v0, project]
  exact Finset.sum_congr rfl fun k _ => mul_comm _ _

end Cert.KvRefIdeal.Kv
-- ==== Proof.KvClaim.lean ====
module

public import proofs.«01_k».proof.Defs
public import proofs.«01_k».proof.Proof.Gen.Kv
public import proofs.«01_k».proof.Proof.Gen.Kv.Frame
public import proofs.«01_k».proof.Proof.Gen.KvIdeal.Value
public import proofs.«01_k».proof.Proof.KvValue
public import proofs.«01_k».proof.Proof.KvRefValue
public import Idealize.ShloMosaic.Lib.Claim

@[expose] public section

set_option maxRecDepth 16384

noncomputable section

/-! The claims about the projection of the memory to keys and values. -/

namespace Cert.Proof

open Idealize.ShloMosaic Idealize.SL.Sem

/-- The printed kernel runs, leaves its arguments alone and ends with every semaphore at zero. -/
theorem frame_Kv : Cert.quiescent_Kv := fun m g _ => Cert.Kv.Gen.frame m g

/-- So does the kernel with exact operations. -/
theorem frame_KvIdeal : Cert.quiescent_KvIdeal := fun m g _ => Cert.KvIdeal.Gen.frame m g

/-- So does the reference, a program with no semaphores. -/
theorem frame_KvRefIdeal : Cert.quiescent_KvRefIdeal := fun m g _ =>
  (θ_run _ _ _).mono (fun _ h => ⟨fun c => (h c).2, sem_eq_zero_of_no_sems rfl _⟩) (Cert.KvRefIdeal.Value.run m g)

/-- The two kernels are one text. -/
theorem preserves_Kv : Cert.preserves_Kv_KvIdeal := trivial

/-- Kernel and reference compute the same array. -/
theorem algebraic_Kv : Cert.algebraic_KvIdeal_KvRefIdeal := by
  pair_intro
  · run_from Cert.KvIdeal.Gen.run_main m g
  · run_from Cert.KvRefIdeal.Value.run m' g'
    rw [Cert.KvRefIdeal.Read.val_main_v2_eq]
    refine Eq.trans ?_ (Cert.KvIdeal.Kv.final m c).symm
    refine funext fun j => ?_
    obtain ⟨l, b, r, n, rfl⟩ : ∃ (l : Fin 4) (b : Fin 2) (r : Fin 256) (n : Fin 2048), j = ix4 l b r n :=
      ⟨j 0, j 1, j 2, j 3, by ext a; match a with | 0 => rfl | 1 => rfl | 2 => rfl | 3 => rfl⟩
    obtain ⟨e0, e1⟩ := hagree c
    refine (Cert.KvRefIdeal.Kv.layers_at _ _ l b r n).trans ?_
    rfl

end Cert.Proof
-- ==== Proof.OddSpec.lean ====
module

public import proofs.«01_k».proof.Proof.EvenSpec

@[expose] public section

noncomputable section

/-! What the last call of an odd layer computes for one position: each head of the recurrence's output is normalised, a
bonus is added, it is gated, and both halves of the mixer go through the output projection. -/

namespace Cert.Trunk

open Idealize.ShloMosaic

/-- The mean of a head's 64 numbers. -/
def headMean (y : Fin 64 → EReal) : EReal := Ideal.div (∑ k, y k) (Ideal.ofBits .f32 0x42800000#32)

/-- A head's numbers less `μ`, over the root of their mean square distance from `μ`. -/
def headScaled (μ : EReal) (y : Fin 64 → EReal) (d : Fin 64) : EReal :=
  (y d - μ) * Ideal.rsqrt (headMean (fun k => (y k - μ) * (y k - μ)) + Ideal.ofBits .f32 0x3A27C5AC#32)

/-- The number 64. -/
theorem sixtyfour : Ideal.ofBits .f32 0x42800000#32 = ((64 : ℝ) : EReal) := by
  simp [Ideal.ofBits, Ideal.ieee]
  rw [← EReal.coe_mul]
  norm_num

/-- The number 1/64. -/
theorem sixtyfourth : Ideal.ofBits .f32 0x3C800000#32 = ((1 / 64 : ℝ) : EReal) := by
  simp [Ideal.ofBits, Ideal.ieee]
  rw [← EReal.coe_mul]
  norm_num

/-- A mean by multiplying with 1/64. -/
theorem headMean_eq (y : Fin 64 → EReal) : headMean y = (∑ k, y k) * Ideal.ofBits .f32 0x3C800000#32 := by
  rw [headMean, sixtyfour, sixtyfourth, Ideal.div_coe (by norm_num)]

/-- A sum with an infinite term is infinite. -/
theorem sum_infinite (y : Fin 64 → EReal) (k : Fin 64) (h : y k = ⊤ ∨ y k = ⊥) : ∑ i, y i = ⊤ ∨ ∑ i, y i = ⊥ := by
  rw [← Finset.add_sum_erase Finset.univ y (Finset.mem_univ k)]
  rcases h with h | h
  · rw [h]
    by_cases hr : ∑ i ∈ Finset.univ.erase k, y i = ⊥
    · exact .inr (by rw [hr, EReal.add_bot])
    · exact .inl (EReal.top_add_of_ne_bot hr)
  · exact .inr (by rw [h, EReal.bot_add])

/-- An infinite sum of infinitely large terms. -/
theorem sum_top (y : Fin 64 → EReal) (h : ∀ k, y k = ⊤) : ∑ k, y k = ⊤ := by
  rw [← Finset.add_sum_erase Finset.univ y (Finset.mem_univ 0), h 0]
  refine EReal.top_add_of_ne_bot (ne_of_gt (lt_of_lt_of_le EReal.bot_lt_zero (Finset.sum_nonneg fun k _ => ?_)))
  rw [h k]
  exact le_top

/-- Scaled about an infinite number, everything is zero: the mean square distance is infinite. -/
theorem headScaled_infinite (y : Fin 64 → EReal) (μ : EReal) (h : μ = ⊤ ∨ μ = ⊥) (d : Fin 64) : headScaled μ y d = 0 := by
  have sq : ∀ k, (y k - μ) * (y k - μ) = ⊤ := fun k => by
    rcases h with rfl | rfl <;> induction y k using EReal.rec <;> simp
  have hm : headMean (fun k => (y k - μ) * (y k - μ)) = ⊤ := by
    rw [headMean_eq, sum_top _ sq, sixtyfourth]
    exact EReal.top_mul_coe_of_pos (by norm_num)
  have he : (⊤ : EReal) + Ideal.ofBits .f32 0x3A27C5AC#32 = ⊤ := by
    refine EReal.top_add_of_ne_bot ?_
    simp [Ideal.ofBits, Ideal.ieee]
    rw [← EReal.coe_mul]
    exact EReal.coe_ne_bot _
  rw [headScaled, hm, he]
  exact mul_zero _

/-- A number less itself is zero when finite and minus infinity when not. Adding these differences up beside the
    numbers changes no scaled head. -/
theorem headScaled_split (y : Fin 64 → EReal) (d : Fin 64) :
    headScaled ((∑ k, y k + ∑ k, (y k - y k)) * Ideal.ofBits .f32 0x3C800000#32) y d = headScaled (headMean y) y d := by
  have scale : ∀ z : EReal, z = ⊤ ∨ z = ⊥ → z * Ideal.ofBits .f32 0x3C800000#32 = ⊤ ∨ z * Ideal.ofBits .f32 0x3C800000#32 = ⊥ := by
    rintro z (rfl | rfl) <;> rw [sixtyfourth]
    · exact .inl (EReal.top_mul_coe_of_pos (by norm_num))
    · exact .inr (EReal.bot_mul_coe_of_pos (by norm_num))
  by_cases hy : ∃ k, y k = ⊤ ∨ y k = ⊥
  · obtain ⟨k, hk⟩ := hy
    have hd : ∑ i, (y i - y i) = ⊥ := by
      rw [← Finset.add_sum_erase Finset.univ (fun i => y i - y i) (Finset.mem_univ k)]
      have : y k - y k = ⊥ := by rcases hk with h | h <;> rw [h] <;> simp
      rw [this, EReal.bot_add]
    rw [headScaled_infinite _ _ (scale _ (.inr (by rw [hd, EReal.add_bot]))),
      headScaled_infinite _ _ (by rw [headMean_eq]; exact scale _ (sum_infinite y k hk))]
  · have hz : ∀ k, y k - y k = 0 := fun k => by
      have h := not_or.1 (not_exists.1 hy k)
      exact EReal.sub_self h.1 h.2
    rw [headMean_eq, Finset.sum_congr rfl fun k _ => hz k, Finset.sum_const_zero, add_zero]

/-- Column `64 h + d` of a row of 512 numbers: entry `d` of head `h`. -/
def headPos (h : Fin 8) (d : Fin 64) : Fin 512 := ⟨h * 64 + d, by omega⟩

/-- The head that a column lies in. -/
def headOf (v : Fin 512 → EReal) (c : Fin 512) (d : Fin 64) : EReal := v (headPos ⟨c / 64, by omega⟩ d)

/-- Over a row of 512 numbers, the sum of those in the head of column `c`. -/
theorem sum_head (f : Fin 512 → EReal) (c : Fin 512) :
    ∑ k, f k * (if k.val / 64 = c.val / 64 then (1 : EReal) else 0) = ∑ d, headOf f c d := by
  have e : ∀ p : Fin 8 × Fin 64, (finProdFinEquiv p : Fin 512) = headPos p.1 p.2 := fun p =>
    Fin.ext (by simp only [finProdFinEquiv, headPos]; show p.2.val + 64 * p.1.val = _; omega)
  rw [← (finProdFinEquiv (m := 8) (n := 64)).sum_comp, Fintype.sum_prod_type, Finset.sum_eq_single ⟨c.val / 64, by omega⟩]
  · refine Finset.sum_congr rfl fun d _ => ?_
    rw [e, if_pos (by show (c.val / 64 * 64 + d.val) / 64 = c.val / 64; omega), mul_one]
    rfl
  · intro h _ hne
    refine Finset.sum_eq_zero fun d _ => ?_
    rw [e, if_neg, mul_zero]
    intro q
    refine hne (Fin.ext ?_)
    have q' : (h.val * 64 + d.val) / 64 = c.val / 64 := q
    show h.val = c.val / 64
    omega
  · exact fun q => absurd (Finset.mem_univ _) q

/-- Two columns of one head. -/
theorem headOf_headPos (v : Fin 512 → EReal) (h : Fin 8) (d : Fin 64) : headOf v (headPos h d) = fun e => v (headPos h e) := by
  have e : (h.val * 64 + d.val) / 64 = h.val := by omega
  funext i
  simp only [headOf, headPos, e]

/-- One row of the call: `y` is the recurrence's output, `yd` the other half of the mixer. -/
def postRow (x : Fin 1024 → EReal) (y gate bonus yd gg gb : Fin 512 → EReal) (wo : Fin 1024 → Fin 1024 → EReal)
    (g b : Fin 1024 → EReal) : Fin 1024 → EReal :=
  mixRow x (fun c => (headScaled (headMean (headOf y c)) (headOf y c)
      ⟨c % 64, Nat.mod_lt _ (by decide)⟩ * gg c + gb c + bonus c) * gate c) yd wo g b

/-- Two rows agree when their ingredients agree entry by entry. -/
theorem postRow_congr {x x' g g' b b' : Fin 1024 → EReal} {y y' gate gate' bonus bonus' yd yd' gg gg' gb gb' : Fin 512 → EReal}
    {wo wo' : Fin 1024 → Fin 1024 → EReal} {c c' : Fin 1024} (hx : ∀ k, x k = x' k) (hy : ∀ k, y k = y' k)
    (hgate : ∀ k, gate k = gate' k) (hbonus : ∀ k, bonus k = bonus' k) (hyd : ∀ k, yd k = yd' k) (hgg : ∀ k, gg k = gg' k)
    (hgb : ∀ k, gb k = gb' k) (hwo : ∀ k n, wo k n = wo' k n) (hg : ∀ k, g k = g' k) (hb : ∀ k, b k = b' k) (hc : c = c') :
    postRow x y gate bonus yd gg gb wo g b c = postRow x' y' gate' bonus' yd' gg' gb' wo' g' b' c' := by
  rw [funext hx, funext hy, funext hgate, funext hbonus, funext hyd, funext hgg, funext hgb, funext fun k => funext (hwo k),
    funext hg, funext hb, hc]

end Cert.Trunk
-- ==== Proof.PostPure.lean ====
module

public import proofs.«01_k».proof.Proof.OddSpec
public import proofs.«01_k».proof.Proof.Gen.PostIdeal.Skeleton

@[expose] public section

set_option maxRecDepth 16384

noncomputable section

/-! The arithmetic of one tile of 256 rows of the odd layers' last kernel, entry by entry. -/

namespace Cert.PostIdeal.Post

open Cert.PostIdeal Cert.PostIdeal.Gen Idealize.ShloMosaic Idealize.ShloMosaic.TcCoe Idealize.SL.Sem
open Cert.Trunk

variable (ones : Vec Ideal S512x512 .bf16) (y : Vec Ideal S256x512 .f32) (gg gb : Vec Ideal S1x1x512 .f32)
    (bonus gate : Vec Ideal S256x512 .f32) (w0 : Vec Ideal S1x512x1024 .bf16) (yd : Vec Ideal S256x512 .f32)
    (w1 : Vec Ideal S1x512x1024 .bf16) (x : Vec Ideal S256x1024 .f32) (g b : Vec Ideal S1x1x1024 .f32)

/-- The matrix with blocks of ones on its diagonal, by which the kernel adds up heads. -/
def onesOn (k c : Fin 512) : EReal := if k.val / 64 = c.val / 64 then 1 else 0

/-- The kernel's means of the heads: of the numbers and of what they differ from themselves by. -/
theorem mean_at (ho : ∀ k c, ones (ix2 k c) = onesOn k c) (r : Fin 256) (c : Fin 512) : k0_pay2 ones y (ix2 r c)
    = (∑ d, headOf (fun k => y (ix2 r k)) c d + ∑ d, (headOf (fun k => y (ix2 r k)) c d - headOf (fun k => y (ix2 r k)) c d))
        * Ideal.ofBits .f32 0x3C800000#32 := by
  pointwise [k0_pay2, k0_pay1]
  simp only [ho, onesOn]
  rw [sum_head (fun k => y (ix2 r k)) c, sum_head (fun k => y (ix2 r k) - y (ix2 r k)) c]
  rfl

/-- The normalised heads. -/
theorem norm_at (ho : ∀ k c, ones (ix2 k c) = onesOn k c) (r : Fin 256) (c : Fin 512) :
    k0_pay14 (k0_pay1 ones) y (k0_pay2 ones y) gg gb (ix2 r c)
      = headScaled (headMean (headOf (fun k => y (ix2 r k)) c)) (headOf (fun k => y (ix2 r k)) c) ⟨c % 64, Nat.mod_lt _ (by decide)⟩
          * gg (ix3 0 0 c) + gb (ix3 0 0 c) := by
  obtain ⟨h, d, rfl⟩ : ∃ h d, c = headPos h d :=
    ⟨⟨c / 64, by omega⟩, ⟨c % 64, Nat.mod_lt _ (by decide)⟩, Fin.ext (by show c.val = c.val / 64 * 64 + c.val % 64; omega)⟩
  have e : (h.val * 64 + d.val) % 64 = d.val := by omega
  have e' : (h.val * 64 + d.val) / 64 = h.val := by omega
  rw [← headScaled_split, headScaled, headMean_eq]
  pointwise [k0_pay14, k0_pay1]
  simp only [ho, onesOn]
  rw [sum_head (fun k => (y (ix2 r k) - k0_pay2 ones y (ix2 r k)) * (y (ix2 r k) - k0_pay2 ones y (ix2 r k)))]
  simp only [headOf_headPos, mean_at ones y ho]
  simp only [headPos, e, e', Fin.eta]

/-- A tile. -/
def tile : FVec Ideal S256x1024 .f32 :=
  k0_pay22 (k0_pay20 (k0_pay15 (k0_pay14 (k0_pay1 ones) y (k0_pay2 ones y) gg gb) bonus gate w0 yd w1) x) (k0_pay21 g) b

/-- A tile, entry by entry. -/
theorem tile_at (ho : ∀ k c, ones (ix2 k c) = onesOn k c) (wo : Fin 1024 → Fin 1024 → EReal)
    (h0 : ∀ (k : Fin 512) n, w0 (ix3 0 k n) = wo ⟨k, by omega⟩ n) (h1 : ∀ (k : Fin 512) n, w1 (ix3 0 k n) = wo ⟨512 + k, by omega⟩ n)
    (r : Fin 256) (c : Fin 1024) : tile ones y gg gb bonus gate w0 yd w1 x g b (ix2 r c)
      = postRow (fun k => x (ix2 r k)) (fun k => y (ix2 r k)) (fun k => gate (ix2 r k)) (fun k => bonus (ix2 r k)) (fun k => yd (ix2 r k))
          (fun k => gg (ix3 0 0 k)) (fun k => gb (ix3 0 0 k)) wo (fun k => g (ix3 0 0 k)) (fun k => b (ix3 0 0 k)) c := by
  unfold postRow mixRow
  simp only [← h0, ← h1]
  pointwise [tile, k0_pay22, k0_pay21, k0_pay20, k0_pay15, norm_at ones y gg gb ho, layerNorm, mean, variance, deep]

/-- The second tile's steps are those of `tile`. -/
theorem second_tile : k0_pay27 (k0_pay23 g) (k0_pay24 b)
      (k0_pay25 (k0_pay17 (k0_pay16 (k0_pay8 y (k0_pay3 ones y)) (k0_pay11 (k0_pay1 ones) y (k0_pay3 ones y)) gg gb bonus gate w0) yd w1) x)
      (k0_pay26 (k0_pay17 (k0_pay16 (k0_pay8 y (k0_pay3 ones y)) (k0_pay11 (k0_pay1 ones) y (k0_pay3 ones y)) gg gb bonus gate w0) yd w1) x)
    = tile ones y gg gb bonus gate w0 yd w1 x g b := rfl

/-- The third tile's steps are those of `tile`. -/
theorem third_tile : k0_pay31 (k0_pay28 b)
      (k0_pay29 (k0_pay18 (k0_pay9 y (k0_pay4 ones y)) (k0_pay12 (k0_pay1 ones) y (k0_pay4 ones y)) gg gb bonus gate w0 yd w1) x) (k0_pay30 g)
    = tile ones y gg gb bonus gate w0 yd w1 x g b := rfl

/-- The fourth tile's steps are those of `tile`. -/
theorem fourth_tile : k0_pay32 (k0_pay19 (k0_pay10 (k0_pay1 ones) y (k0_pay6 ones y) (k0_pay7 y))
      (k0_pay13 (k0_pay1 ones) y (k0_pay6 ones y) (k0_pay7 y)) (Scalar.ofBits .f32 0x3A27C5AC#32) gg gb bonus gate w0 yd w1) x g b
    = tile ones y gg gb bonus gate w0 yd w1 x g b := rfl

end Cert.PostIdeal.Post
-- ==== Proof.PostValue.lean ====
module

public import proofs.«01_k».proof.Proof.PostPure
public import proofs.«01_k».proof.Proof.Gen.PostIdeal.Value
public import Idealize.ShloMosaic.Lib.Claim
public import Idealize.ShloMosaic.Lib.Pipeline.ValueKit

@[expose] public section

set_option maxRecDepth 16384

noncomputable section

/-! The result array of the odd layers' last kernel, row by row. -/

namespace Cert.PostIdeal.Post

open Cert.PostIdeal Cert.PostIdeal.Gen Idealize.ShloMosaic Idealize.ShloMosaic.TcCoe Idealize.SL.Sem
open Idealize.ShloMosaic.Pipeline (Dat)
open Cert.Trunk

/-- What a grid point stores, at an index of the block: that row of its input blocks, normalised, gated and projected. -/
theorem out_at (x0 : Vec Ideal S1024x1024 .f32) (x1 x2 x3 x4 : Vec Ideal S1024x512 .f32) (x5 x6 : Vec Ideal S1x1x512 .f32)
    (x7 : Vec Ideal S512x512 .bf16) (x8 : Vec Ideal S1x1024x1024 .bf16) (x9 x10 : Vec Ideal S1x1x1024 .f32)
    (ho : ∀ k c, x7 (ix2 k c) = onesOn k c) (y : S1024x1024.Idx) :
    out0_11 (F := Ideal) x0 x1 x2 x3 x4 x5 x6 x7 x8 x9 x10 y
      = postRow (fun k => x0 (ix2 (y 0) k)) (fun k => x1 (ix2 (y 0) k)) (fun k => x2 (ix2 (y 0) k)) (fun k => x3 (ix2 (y 0) k))
          (fun k => x4 (ix2 (y 0) k)) (fun k => x5 (ix3 0 0 k)) (fun k => x6 (ix3 0 0 k)) (fun k n => x8 (ix3 0 k n))
          (fun k => x9 (ix3 0 0 k)) (fun k => x10 (ix3 0 0 k)) (y 1) := by
  unfold_out out0_11
  canon_tiles x h
  all_goals
    idx_vars x
    first
    | rw [fourth_tile]
    | rw [third_tile]
    | rw [second_tile]
    | rw [← tile]
    refine (tile_at _ _ _ _ _ _ _ _ _ _ _ _ ?_ (fun k n => x8 (ix3 0 k n)) ?_ ?_ _ _).trans
      (postRow_congr ?_ ?_ ?_ ?_ ?_ ?_ ?_ ?_ ?_ ?_ ?_)
  all_goals first
    | (intro a b; refine Eq.trans ?_ (ho a b); pointwise; done)
    | (intro a b; refine Eq.trans ?_ (ho a b); pointwise; blk_ext; done)
    | (intro a b; rfl)
    | (intro a b; pointwise; blk_ext; done)
    | (intro a; pointwise; done)
    | (intro a; pointwise; blk_ext; done)
    | exact Fin.ext h1.symm

variable (m : (ℓ : Loc nD τ sig) → Buf (Elt Ideal) ℓ)

/-- The call over whole arrays: row `r` of the flattened arrays is position `r % 16384` of sequence `r / 16384`; the
    weights are slice 1 of the stacked arrays, the normalisation entry 1 of slice 3. -/
def layer (X : Vec Ideal S2x16384x1024 .f32) (Y GT BO YD : Vec Ideal S32768x512 .f32) (GG GB : Vec Ideal S2x512 .f32)
    (WO : Vec Ideal S2x1024x1024 .f32) (G B : Vec Ideal S4x4x1024 .f32) : Vec Ideal S32768x1024 .f32 := fun j =>
  postRow (fun k => X (ix3 ⟨(j 0).val / 16384, by have := (j 0).isLt; change _ < 32768 at this; omega⟩ ⟨(j 0).val % 16384, by omega⟩ k))
    (fun k => Y (ix2 (j 0) k)) (fun k => GT (ix2 (j 0) k)) (fun k => BO (ix2 (j 0) k)) (fun k => YD (ix2 (j 0) k))
    (fun k => GG (ix2 1 k)) (fun k => GB (ix2 1 k)) (fun k n => WO (ix3 1 k n)) (fun k => G (ix3 3 1 k)) (fun k => B (ix3 3 1 k)) (j 1)

/-- Equal arguments, equal results. -/
theorem layer_congr {X X' : Vec Ideal S2x16384x1024 .f32} {Y Y' GT GT' BO BO' YD YD' : Vec Ideal S32768x512 .f32}
    {GG GG' GB GB' : Vec Ideal S2x512 .f32} {WO WO' : Vec Ideal S2x1024x1024 .f32} {G G' B B' : Vec Ideal S4x4x1024 .f32}
    (h0 : X = X') (h1 : Y = Y') (h2 : GT = GT') (h3 : BO = BO') (h4 : YD = YD') (h5 : GG = GG') (h6 : GB = GB') (h7 : WO = WO')
    (h8 : G = G') (h9 : B = B') : layer X Y GT BO YD GG GB WO G B = layer X' Y' GT' BO' YD' GG' GB' WO' G' B' := by
  subst h0 h1 h2 h3 h4 h5 h6 h7 h8 h9
  rfl

/-- The blocks a grid point reads and writes: row block `t` of the inputs and the result, slice 1 of the weights, the
    norm parameters 4 * 3 + 1. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![1, 0, 0] ∧ win0_6.index t = ![1, 0, 0]
    ∧ win0_7.index t = ![0, 0] ∧ win0_8.index t = ![1, 0, 0] ∧ win0_9.index t = ![13, 0, 0] ∧ win0_10.index t = ![13, 0, 0]
    ∧ win0_11.index t = ![t.val, 0] :=
  (by decide +kernel : ∀ t : Fin grid0.N, _)

/-- The matrix that the host lays out has blocks of ones on its diagonal. -/
theorem ones_at (c : Dev nD) (t : Fin cfg0.N) (k n : Fin 512) : iblk m c 7 t (ix2 k n) = onesOn k n := by
  blk_simp [iblk]; entry_read; pointwise
  have e0 : (((View.whole main_v13).slice (win0_7.rect t)).emb (ix2 k n) 0).val = k.val := by blk_simp [idx t]
  have e1 : (((View.whole main_v13).slice (win0_7.rect t)).emb (ix2 k n) 1).val = n.val := by blk_simp [idx t]
  rw [e0, e1]
  exact (on_diagonal .bf16 ⟨k / 64, by omega⟩ ⟨n / 64, by omega⟩).trans (by simp only [onesOn, Fin.mk.injEq])

set_option maxHeartbeats 2000000 in
/-- The kernel's result array is the call's function of its arguments. -/
theorem final (c : Dev nD) :
    (dats m 0 c).arrAt 11 cfg0.N
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (dats m 0 c).arrAt_eq_of_covers 11 _ (by decide +kernel) fun t _ y => ?_
  have ht : t.val < 32 := lt_of_lt_of_eq t.isLt N_0
  blk_simp
  rw [after0_11]
  refine (out_at _ _ _ _ _ _ _ _ _ _ _ (ones_at m c t) y).trans (postRow_congr ?_ ?_ ?_ ?_ ?_ ?_ ?_ ?_ ?_ ?_ ?_)
  · intro k; blk_simp [iblk]; entry_read; pointwise; blk_ext [idx t]
  · intro k; blk_ext [iblk, V_main_arg1, idx t]
  · intro k; blk_ext [iblk, V_main_arg2, idx t]
  · intro k; blk_ext [iblk, V_main_arg3, idx t]
  · intro k; blk_ext [iblk, V_main_arg4, idx t]
  · intro k; blk_simp [iblk]; entry_read; pointwise; blk_ext [idx t]
  · intro k; blk_simp [iblk]; entry_read; pointwise; blk_ext [idx t]
  · intro k n; blk_simp [iblk]; entry_read; pointwise; blk_ext [idx t]
  · intro k; blk_simp [iblk]; entry_read; pointwise; blk_ext [idx t]
  · intro k; blk_simp [iblk]; entry_read; pointwise; blk_ext [idx t]
  · exact Fin.ext (by blk_simp [idx t])

end Cert.PostIdeal.Post
-- ==== Proof.PostRefValue.lean ====
module

public import proofs.«01_k».proof.Proof.OddSpec
public import proofs.«01_k».proof.Proof.Gen.PostRefIdeal.Read

@[expose] public section

set_option maxRecDepth 16384

noncomputable section

/-! The reference for the odd layers' last call, row by row. -/

namespace Cert.PostRefIdeal.Post

open Cert.PostRefIdeal Cert.PostRefIdeal.Gen Cert.PostRefIdeal.Read
open Idealize.ShloMosaic Idealize.ShloMosaic.TcCoe Idealize.SL.Sem
open Cert.Trunk

variable (X : (⟨S2x16384x1024, .f32⟩ : BufTy).Contents (Elt Ideal)) (Y GT BO YD : (⟨S32768x512, .f32⟩ : BufTy).Contents (Elt Ideal))
    (GG GB : (⟨S2x512, .f32⟩ : BufTy).Contents (Elt Ideal)) (WO : (⟨S2x1024x1024, .f32⟩ : BufTy).Contents (Elt Ideal))
    (G B : (⟨S4x4x1024, .f32⟩ : BufTy).Contents (Elt Ideal))

/-- Row `s` of sequence `b`, among all rows. -/
def rowIdx (b : Fin 2) (s : Fin 16384) : Fin 32768 := ⟨b * 16384 + s, by omega⟩

/-- The normalised heads of a position. -/
theorem heads_at (b : Fin 2) (s : Fin 16384) (h : Fin 8) (d : Fin 64) :
    val_main_v18 (F := Ideal) Y (ix4 b s h d)
      = headScaled (headMean fun e => Y (ix2 (rowIdx b s) (headPos h e))) (fun e => Y (ix2 (rowIdx b s) (headPos h e))) d := by
  pointwise [val_main_v18, val_main_v17, val_main_v16, val_main_v15, val_main_v14, val_main_cst_3, val_main_v13, val_main_v12,
    val_main_v11, val_main_v10, val_main_cst_2, val_main_v9, val_main_v8, val_main_cst_1, val_main_v7, val_main_v6, val_main_v5,
    val_main_v4, val_main_v3, val_main_cst_0, val_main_v2, val_main_v1, val_main_cst, val_main_v0, headScaled, headMean, headPos, rowIdx]

/-- The gated half of the mixer. -/
theorem gated_at (b : Fin 2) (s : Fin 16384) (c : Fin 512) :
    val_main_v33 (F := Ideal) Y GT BO GG GB (ix3 b s c)
      = (val_main_v18 (F := Ideal) Y (ix4 b s ⟨c / 64, by omega⟩ ⟨c % 64, Nat.mod_lt _ (by decide)⟩) * GG (ix2 1 c) + GB (ix2 1 c)
          + BO (ix2 (rowIdx b s) c)) * GT (ix2 (rowIdx b s) c) := by
  pointwise [val_main_v33, val_main_v32, val_main_v31, val_main_v30, val_main_v29, val_main_v28, val_main_v27, val_main_v26,
    val_main_v25, val_main_v24, val_main_v23, val_main_v22, val_main_v21, val_main_v20, val_main_v19, rowIdx]

/-- The residual stream after the mixer, before the normalisation. -/
theorem sum_at (b : Fin 2) (s : Fin 16384) (c : Fin 1024) :
    val_main_v41 (F := Ideal) X Y GT BO YD GG GB WO (ix3 b s c)
      = deep (X (ix3 b s c)) + ((∑ k : Fin 512, val_main_v33 (F := Ideal) Y GT BO GG GB (ix3 b s k) * WO (ix3 1 ⟨k, by omega⟩ c))
          + ∑ k : Fin 512, YD (ix2 (rowIdx b s) k) * WO (ix3 1 ⟨512 + k, by omega⟩ c)) := by
  pointwise [val_main_v41, val_main_v40, val_main_v39, val_main_cst_4, val_main_v38, val_main_v37, val_main_v36, val_main_v35, val_main_v34, deep, rowIdx]

/-- The normalised result. -/
theorem result_at (r : Fin 32768) (c : Fin 1024) :
    val_main_v70 (F := Ideal) X Y GT BO YD GG GB WO G B (ix2 r c)
      = layerNorm (fun k => val_main_v41 (F := Ideal) X Y GT BO YD GG GB WO (ix3 ⟨r / 16384, by omega⟩ ⟨r % 16384, by omega⟩ k))
          (fun k => G (ix3 3 1 k)) (fun k => B (ix3 3 1 k)) c := by
  pointwise [val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v51, val_main_v50, val_main_v49, val_main_v48, val_main_v47, val_main_v46, val_main_v45,
    val_main_v44, val_main_v43, val_main_v42, val_main_cst_5, val_main_cst_6, val_main_cst_7, val_main_cst_8, val_main_cst_9,
    layerNorm, variance, mean]

/-- The reference's result at an index is the call's function of its row. -/
theorem layer_at (r : Fin 32768) (c : Fin 1024) :
    val_main_v70 (F := Ideal) X Y GT BO YD GG GB WO G B (ix2 r c)
      = postRow (fun k => X (ix3 ⟨r / 16384, by omega⟩ ⟨r % 16384, by omega⟩ k)) (fun k => Y (ix2 r k)) (fun k => GT (ix2 r k))
          (fun k => BO (ix2 r k)) (fun k => YD (ix2 r k)) (fun k => GG (ix2 1 k)) (fun k => GB (ix2 1 k)) (fun k n => WO (ix3 1 k n))
          (fun k => G (ix3 3 1 k)) (fun k => B (ix3 3 1 k)) c := by
  have hr : rowIdx ⟨r / 16384, by omega⟩ ⟨r % 16384, by omega⟩ = r := Fin.ext (by simp only [rowIdx]; omega)
  rw [result_at]
  simp only [sum_at, gated_at, heads_at, hr, postRow, mixRow]
  rfl

end Cert.PostRefIdeal.Post
-- ==== Proof.PostClaim.lean ====
module

public import proofs.«01_k».proof.Defs
public import proofs.«01_k».proof.Proof.Gen.Post
public import proofs.«01_k».proof.Proof.Gen.Post.Frame
public import proofs.«01_k».proof.Proof.Gen.PostIdeal.Value
public import proofs.«01_k».proof.Proof.PostValue
public import proofs.«01_k».proof.Proof.PostRefValue
public import Idealize.ShloMosaic.Lib.Claim

@[expose] public section

set_option maxRecDepth 16384

noncomputable section

/-! The claims about the last call of an odd layer. -/

namespace Cert.Proof

open Idealize.ShloMosaic Idealize.SL.Sem

/-- The printed kernel runs, leaves its arguments alone and ends with every semaphore at zero. -/
theorem frame_Post : Cert.quiescent_Post := fun m g _ => Cert.Post.Gen.frame m g

/-- So does the kernel with exact operations. -/
theorem frame_PostIdeal : Cert.quiescent_PostIdeal := fun m g _ => Cert.PostIdeal.Gen.frame m g

/-- So does the reference, a program with no semaphores. -/
theorem frame_PostRefIdeal : Cert.quiescent_PostRefIdeal := fun m g _ =>
  (θ_run _ _ _).mono (fun _ h => ⟨fun c => (h c).2, sem_eq_zero_of_no_sems rfl _⟩) (Cert.PostRefIdeal.Value.run m g)

/-- The two kernels are one text. -/
theorem preserves_Post : Cert.preserves_Post_PostIdeal := trivial

/-- Kernel and reference compute the same array. -/
theorem algebraic_Post : Cert.algebraic_PostIdeal_PostRefIdeal := by
  pair_intro
  · run_from Cert.PostIdeal.Gen.run_main m g
  · run_from Cert.PostRefIdeal.Value.run m' g'
    obtain ⟨e0, e1, e2, e3, e4, e5, e6, e7, e8, e9⟩ := hagree c
    refine (Cert.PostRefIdeal.Read.val_main_v70_eq m' c).trans ?_
    refine Eq.trans ?_ (Cert.PostIdeal.Post.final m c).symm
    refine funext fun j => ?_
    obtain ⟨r, n, rfl⟩ : ∃ (r : Fin 32768) (n : Fin 1024), j = ix2 r n :=
      ⟨j 0, j 1, by ext a; match a with | 0 => rfl | 1 => rfl⟩
    refine (Cert.PostRefIdeal.Post.layer_at _ _ _ _ _ _ _ _ _ _ r n).trans ?_
    exact congrFun (Cert.PostIdeal.Post.layer_congr e0 e1 e2 e3 e4 e5 e6 e7 e8 e9) (ix2 r n)

end Cert.Proof
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Even
public import proofs.«01_k».proof.Proof.Gen.Even.Skeleton
public import proofs.«01_k».proof.Proof.Gen.Even.Launch
public import proofs.«01_k».proof.Proof.Gen.Even.Points
public import proofs.«01_k».proof.Proof.Gen.Even.Frame
public import proofs.«01_k».proof.Proof.Gen.EvenIdeal
public import proofs.«01_k».proof.Proof.Gen.EvenIdeal.Skeleton
public import proofs.«01_k».proof.Proof.Gen.EvenIdeal.Launch
public import proofs.«01_k».proof.Proof.Gen.EvenIdeal.Points
public import proofs.«01_k».proof.Proof.Gen.EvenIdeal.Frame
public import proofs.«01_k».proof.Proof.Gen.EvenIdeal.Value
public import proofs.«01_k».proof.Proof.Gen.EvenRefIdeal
public import proofs.«01_k».proof.Proof.Gen.EvenRefIdeal.Run
public import proofs.«01_k».proof.Proof.Gen.EvenRefIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvRefIdeal.Read
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Gen.PostRefIdeal.Read
public import proofs.«01_k».proof.Proof.AttnClaim
public import proofs.«01_k».proof.Proof.FfnClaim
public import proofs.«01_k».proof.Proof.EvenClaim
public import proofs.«01_k».proof.Proof.KvClaim
public import proofs.«01_k».proof.Proof.PostClaim
public import Idealize.ShloMosaic.Adequacy
public import Idealize.ShloMosaic.Init

@[expose] public section

noncomputable section

namespace Cert.Proof

open Idealize.ShloMosaic Idealize.SL.Sem Cert.Attn

/-- The claims about five kinds of calls of the trunk, the cross-attention, the feed-forward layer,
the mixer of an even layer, the memory's projection to keys and values and the last call of an odd layer's mixer: the frames of the kernels, of their ideal forms and of the references, that each ideal form
is the kernel over the extended reals, and that kernel and reference compute the same function. -/
theorem claim : Cert.Claim :=
  ⟨Cert.Attn.Gen.facts, Cert.AttnIdeal.Gen.facts, Cert.AttnRefIdeal.Gen.facts,
    Cert.Ffn.Gen.facts, Cert.FfnIdeal.Gen.facts, Cert.FfnRefIdeal.Gen.facts,
    Cert.Even.Gen.facts, Cert.EvenIdeal.Gen.facts, Cert.EvenRefIdeal.Gen.facts,
    Cert.Kv.Gen.facts, Cert.KvIdeal.Gen.facts, Cert.KvRefIdeal.Gen.facts,
    Cert.Post.Gen.facts, Cert.PostIdeal.Gen.facts, Cert.PostRefIdeal.Gen.facts,
    frame_Attn, frame_AttnIdeal, frame_AttnRefIdeal, frame_Ffn, frame_FfnIdeal, frame_FfnRefIdeal,
    frame_Even, frame_EvenIdeal, frame_EvenRefIdeal, frame_Kv, frame_KvIdeal, frame_KvRefIdeal,
    frame_Post, frame_PostIdeal, frame_PostRefIdeal,
    preserves_Attn, algebraic_Attn, preserves_Ffn, algebraic_Ffn, preserves_Even, algebraic_Even, preserves_Kv, algebraic_Kv,
    preserves_Post, algebraic_Post⟩

end Cert.Proof

end
